-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16x32x256 : Shape := ⟨3, ![16, 32, 256]⟩
abbrev S16 : Shape := ⟨1, ![16]⟩
abbrev S_ : Shape := ⟨0, ![]⟩
abbrev S128x256 : Shape := ⟨2, ![128, 256]⟩
abbrev S128x512 : Shape := ⟨2, ![128, 512]⟩
abbrev S4x32x256 : Shape := ⟨3, ![4, 32, 256]⟩
abbrev S1 : Shape := ⟨1, ![1]⟩
abbrev S1x32x256 : Shape := ⟨3, ![1, 32, 256]⟩
abbrev S32x256 : Shape := ⟨2, ![32, 256]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S16x32x256, .bf16⟩
  | .local _ .vmem, ⟨9, _⟩ => ⟨S16x32x256, .bf16⟩
  | .local _ .vmem, ⟨10, _⟩ => ⟨S16x32x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_71 : BitVec 32 := 0#32
  let v79 : BitVec 1 := Scalar.cmpi .ne v2 c0_i32_71
  let v80 : BitVec 32 := Scalar.extui v79
  let c0_i32_72 : BitVec 32 := 0#32
  let v81 : BitVec 1 := Scalar.cmpi .ne v80 c0_i32_72
  v81

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev16 : Nat :=
  let c0_i32_1994 : BitVec 32 := 0#32
  let c0_i32_1992 : BitVec 32 := 0#32
  let c1_i32_1993 : BitVec 32 := 1#32
  let v2401 : BitVec 32 := Scalar.muli c0_i32_1992 c1_i32_1993
  let v2402 : BitVec 32 := Scalar.addi c0_i32_1994 v2401
  v2402.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v82 : BitVec 1 := Scalar.cmpi .ne v2 c1_i32_73
  let v83 : BitVec 32 := Scalar.extui v82
  let c0_i32_74 : BitVec 32 := 0#32
  let v84 : BitVec 1 := Scalar.cmpi .ne v83 c0_i32_74
  v84

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev17 : Nat :=
  let c0_i32_1994 : BitVec 32 := 0#32
  let c1_i32_1992 : BitVec 32 := 1#32
  let c1_i32_1993 : BitVec 32 := 1#32
  let v2401 : BitVec 32 := Scalar.muli c1_i32_1992 c1_i32_1993
  let v2402 : BitVec 32 := Scalar.addi c0_i32_1994 v2401
  v2402.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v85 : BitVec 1 := Scalar.cmpi .ne v2 c2_i32_75
  let v86 : BitVec 32 := Scalar.extui v85
  let c0_i32_76 : BitVec 32 := 0#32
  let v87 : BitVec 1 := Scalar.cmpi .ne v86 c0_i32_76
  v87

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev18 : Nat :=
  let c0_i32_1994 : BitVec 32 := 0#32
  let c2_i32_1992 : BitVec 32 := 2#32
  let c1_i32_1993 : BitVec 32 := 1#32
  let v2401 : BitVec 32 := Scalar.muli c2_i32_1992 c1_i32_1993
  let v2402 : BitVec 32 := Scalar.addi c0_i32_1994 v2401
  v2402.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_77 : BitVec 32 := 3#32
  let v88 : BitVec 1 := Scalar.cmpi .ne v2 c3_i32_77
  let v89 : BitVec 32 := Scalar.extui v88
  let c0_i32_78 : BitVec 32 := 0#32
  let v90 : BitVec 1 := Scalar.cmpi .ne v89 c0_i32_78
  v90

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev19 : Nat :=
  let c0_i32_1994 : BitVec 32 := 0#32
  let c3_i32_1992 : BitVec 32 := 3#32
  let c1_i32_1993 : BitVec 32 := 1#32
  let v2401 : BitVec 32 := Scalar.muli c3_i32_1992 c1_i32_1993
  let v2402 : BitVec 32 := Scalar.addi c0_i32_1994 v2401
  v2402.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_89 : BitVec 32 := 4#32
  let v106 : BitVec 1 := Scalar.cmpi .ne v2 c4_i32_89
  let v107 : BitVec 32 := Scalar.extui v106
  let c0_i32_90 : BitVec 32 := 0#32
  let v108 : BitVec 1 := Scalar.cmpi .ne v107 c0_i32_90
  v108

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev20 : Nat :=
  let c0_i32_1994 : BitVec 32 := 0#32
  let c4_i32_1992 : BitVec 32 := 4#32
  let c1_i32_1993 : BitVec 32 := 1#32
  let v2401 : BitVec 32 := Scalar.muli c4_i32_1992 c1_i32_1993
  let v2402 : BitVec 32 := Scalar.addi c0_i32_1994 v2401
  v2402.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_91 : BitVec 32 := 5#32
  let v109 : BitVec 1 := Scalar.cmpi .ne v2 c5_i32_91
  let v110 : BitVec 32 := Scalar.extui v109
  let c0_i32_92 : BitVec 32 := 0#32
  let v111 : BitVec 1 := Scalar.cmpi .ne v110 c0_i32_92
  v111

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev21 : Nat :=
  let c0_i32_1994 : BitVec 32 := 0#32
  let c5_i32_1992 : BitVec 32 := 5#32
  let c1_i32_1993 : BitVec 32 := 1#32
  let v2401 : BitVec 32 := Scalar.muli c5_i32_1992 c1_i32_1993
  let v2402 : BitVec 32 := Scalar.addi c0_i32_1994 v2401
  v2402.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_93 : BitVec 32 := 6#32
  let v112 : BitVec 1 := Scalar.cmpi .ne v2 c6_i32_93
  let v113 : BitVec 32 := Scalar.extui v112
  let c0_i32_94 : BitVec 32 := 0#32
  let v114 : BitVec 1 := Scalar.cmpi .ne v113 c0_i32_94
  v114

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev22 : Nat :=
  let c0_i32_1994 : BitVec 32 := 0#32
  let c6_i32_1992 : BitVec 32 := 6#32
  let c1_i32_1993 : BitVec 32 := 1#32
  let v2401 : BitVec 32 := Scalar.muli c6_i32_1992 c1_i32_1993
  let v2402 : BitVec 32 := Scalar.addi c0_i32_1994 v2401
  v2402.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v115 : BitVec 1 := Scalar.cmpi .ne v2 c7_i32_95
  let v116 : BitVec 32 := Scalar.extui v115
  let c0_i32_96 : BitVec 32 := 0#32
  let v117 : BitVec 1 := Scalar.cmpi .ne v116 c0_i32_96
  v117

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev23 : Nat :=
  let c0_i32_1994 : BitVec 32 := 0#32
  let c7_i32_1992 : BitVec 32 := 7#32
  let c1_i32_1993 : BitVec 32 := 1#32
  let v2401 : BitVec 32 := Scalar.muli c7_i32_1992 c1_i32_1993
  let v2402 : BitVec 32 := Scalar.addi c0_i32_1994 v2401
  v2402.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_107 : BitVec 32 := 8#32
  let v133 : BitVec 1 := Scalar.cmpi .ne v2 c8_i32_107
  let v134 : BitVec 32 := Scalar.extui v133
  let c0_i32_108 : BitVec 32 := 0#32
  let v135 : BitVec 1 := Scalar.cmpi .ne v134 c0_i32_108
  v135

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev24 : Nat :=
  let c0_i32_1994 : BitVec 32 := 0#32
  let c8_i32_1992 : BitVec 32 := 8#32
  let c1_i32_1993 : BitVec 32 := 1#32
  let v2401 : BitVec 32 := Scalar.muli c8_i32_1992 c1_i32_1993
  let v2402 : BitVec 32 := Scalar.addi c0_i32_1994 v2401
  v2402.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_109 : BitVec 32 := 9#32
  let v136 : BitVec 1 := Scalar.cmpi .ne v2 c9_i32_109
  let v137 : BitVec 32 := Scalar.extui v136
  let c0_i32_110 : BitVec 32 := 0#32
  let v138 : BitVec 1 := Scalar.cmpi .ne v137 c0_i32_110
  v138

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev25 : Nat :=
  let c0_i32_1994 : BitVec 32 := 0#32
  let c9_i32_1992 : BitVec 32 := 9#32
  let c1_i32_1993 : BitVec 32 := 1#32
  let v2401 : BitVec 32 := Scalar.muli c9_i32_1992 c1_i32_1993
  let v2402 : BitVec 32 := Scalar.addi c0_i32_1994 v2401
  v2402.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_111 : BitVec 32 := 10#32
  let v139 : BitVec 1 := Scalar.cmpi .ne v2 c10_i32_111
  let v140 : BitVec 32 := Scalar.extui v139
  let c0_i32_112 : BitVec 32 := 0#32
  let v141 : BitVec 1 := Scalar.cmpi .ne v140 c0_i32_112
  v141

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev26 : Nat :=
  let c0_i32_1994 : BitVec 32 := 0#32
  let c10_i32_1992 : BitVec 32 := 10#32
  let c1_i32_1993 : BitVec 32 := 1#32
  let v2401 : BitVec 32 := Scalar.muli c10_i32_1992 c1_i32_1993
  let v2402 : BitVec 32 := Scalar.addi c0_i32_1994 v2401
  v2402.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_113 : BitVec 32 := 11#32
  let v142 : BitVec 1 := Scalar.cmpi .ne v2 c11_i32_113
  let v143 : BitVec 32 := Scalar.extui v142
  let c0_i32_114 : BitVec 32 := 0#32
  let v144 : BitVec 1 := Scalar.cmpi .ne v143 c0_i32_114
  v144

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev27 : Nat :=
  let c0_i32_1994 : BitVec 32 := 0#32
  let c11_i32_1992 : BitVec 32 := 11#32
  let c1_i32_1993 : BitVec 32 := 1#32
  let v2401 : BitVec 32 := Scalar.muli c11_i32_1992 c1_i32_1993
  let v2402 : BitVec 32 := Scalar.addi c0_i32_1994 v2401
  v2402.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_125 : BitVec 32 := 12#32
  let v160 : BitVec 1 := Scalar.cmpi .ne v2 c12_i32_125
  let v161 : BitVec 32 := Scalar.extui v160
  let c0_i32_126 : BitVec 32 := 0#32
  let v162 : BitVec 1 := Scalar.cmpi .ne v161 c0_i32_126
  v162

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev28 : Nat :=
  let c0_i32_1994 : BitVec 32 := 0#32
  let c12_i32_1992 : BitVec 32 := 12#32
  let c1_i32_1993 : BitVec 32 := 1#32
  let v2401 : BitVec 32 := Scalar.muli c12_i32_1992 c1_i32_1993
  let v2402 : BitVec 32 := Scalar.addi c0_i32_1994 v2401
  v2402.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_127 : BitVec 32 := 13#32
  let v163 : BitVec 1 := Scalar.cmpi .ne v2 c13_i32_127
  let v164 : BitVec 32 := Scalar.extui v163
  let c0_i32_128 : BitVec 32 := 0#32
  let v165 : BitVec 1 := Scalar.cmpi .ne v164 c0_i32_128
  v165

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev29 : Nat :=
  let c0_i32_1994 : BitVec 32 := 0#32
  let c13_i32_1992 : BitVec 32 := 13#32
  let c1_i32_1993 : BitVec 32 := 1#32
  let v2401 : BitVec 32 := Scalar.muli c13_i32_1992 c1_i32_1993
  let v2402 : BitVec 32 := Scalar.addi c0_i32_1994 v2401
  v2402.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_129 : BitVec 32 := 14#32
  let v166 : BitVec 1 := Scalar.cmpi .ne v2 c14_i32_129
  let v167 : BitVec 32 := Scalar.extui v166
  let c0_i32_130 : BitVec 32 := 0#32
  let v168 : BitVec 1 := Scalar.cmpi .ne v167 c0_i32_130
  v168

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev30 : Nat :=
  let c0_i32_1994 : BitVec 32 := 0#32
  let c14_i32_1992 : BitVec 32 := 14#32
  let c1_i32_1993 : BitVec 32 := 1#32
  let v2401 : BitVec 32 := Scalar.muli c14_i32_1992 c1_i32_1993
  let v2402 : BitVec 32 := Scalar.addi c0_i32_1994 v2401
  v2402.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_131 : BitVec 32 := 15#32
  let v169 : BitVec 1 := Scalar.cmpi .ne v2 c15_i32_131
  let v170 : BitVec 32 := Scalar.extui v169
  let c0_i32_132 : BitVec 32 := 0#32
  let v171 : BitVec 1 := Scalar.cmpi .ne v170 c0_i32_132
  v171

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev31 : Nat :=
  let c0_i32_1994 : BitVec 32 := 0#32
  let c15_i32_1992 : BitVec 32 := 15#32
  let c1_i32_1993 : BitVec 32 := 1#32
  let v2401 : BitVec 32 := Scalar.muli c15_i32_1992 c1_i32_1993
  let v2402 : BitVec 32 := Scalar.addi c0_i32_1994 v2401
  v2402.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v172 : Index := Scalar.indexCast v2
  let c0_133 : Index := 0#32
  let c0_134 : Index := 0#32
  ![v172.toNat, 0, 0]
def k0_off34 (d0 : Dev nD) (c1_i32_137 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v179 : BitVec 32 := Scalar.addi v2 c1_i32_137
  let c16_i32_138 : BitVec 32 := 16#32
  let v180 : BitVec 32 := Scalar.remsi v179 c16_i32_138
  ![v180.toNat]
def k0_off35 (d0 : Dev nD) (c1_i32_137 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v179 : BitVec 32 := Scalar.addi v2 c1_i32_137
  let c16_i32_138 : BitVec 32 := 16#32
  let v180 : BitVec 32 := Scalar.remsi v179 c16_i32_138
  let c0_i32_143 : BitVec 32 := 0#32
  let c0_i32_144 : BitVec 32 := 0#32
  ![v180.toNat, 0, 0]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_297 : BitVec 32 := 0#32
  let c0_i32_298 : BitVec 32 := 0#32
  ![v2.toNat, 0, 0]
def k0_dev32 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_293 : BitVec 32 := 8#32
  let v337 : BitVec 32 := Scalar.addi v2 c8_i32_293
  let c16_i32_294 : BitVec 32 := 16#32
  let v338 : BitVec 32 := Scalar.remsi v337 c16_i32_294
  let c1_i32_295 : BitVec 32 := 1#32
  let v339 : BitVec 32 := Scalar.muli v338 c1_i32_295
  let v340 : BitVec 32 := Scalar.addi c0_i32_296 v339
  v340.toNat
def k0_dev33 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_301 : BitVec 32 := 7#32
  let v349 : BitVec 32 := Scalar.addi v2 c7_i32_301
  let c16_i32_302 : BitVec 32 := 16#32
  let v350 : BitVec 32 := Scalar.remsi v349 c16_i32_302
  let c1_i32_303 : BitVec 32 := 1#32
  let v351 : BitVec 32 := Scalar.muli v350 c1_i32_303
  let v352 : BitVec 32 := Scalar.addi c0_i32_304 v351
  v352.toNat
def k0_dev34 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_309 : BitVec 32 := 9#32
  let v361 : BitVec 32 := Scalar.addi v2 c9_i32_309
  let c16_i32_310 : BitVec 32 := 16#32
  let v362 : BitVec 32 := Scalar.remsi v361 c16_i32_310
  let c1_i32_311 : BitVec 32 := 1#32
  let v363 : BitVec 32 := Scalar.muli v362 c1_i32_311
  let v364 : BitVec 32 := Scalar.addi c0_i32_312 v363
  v364.toNat
def k0_dev35 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_317 : BitVec 32 := 6#32
  let v373 : BitVec 32 := Scalar.addi v2 c6_i32_317
  let c16_i32_318 : BitVec 32 := 16#32
  let v374 : BitVec 32 := Scalar.remsi v373 c16_i32_318
  let c1_i32_319 : BitVec 32 := 1#32
  let v375 : BitVec 32 := Scalar.muli v374 c1_i32_319
  let v376 : BitVec 32 := Scalar.addi c0_i32_320 v375
  v376.toNat
def k0_dev36 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_325 : BitVec 32 := 10#32
  let v385 : BitVec 32 := Scalar.addi v2 c10_i32_325
  let c16_i32_326 : BitVec 32 := 16#32
  let v386 : BitVec 32 := Scalar.remsi v385 c16_i32_326
  let c1_i32_327 : BitVec 32 := 1#32
  let v387 : BitVec 32 := Scalar.muli v386 c1_i32_327
  let v388 : BitVec 32 := Scalar.addi c0_i32_328 v387
  v388.toNat
def k0_dev37 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_333 : BitVec 32 := 5#32
  let v397 : BitVec 32 := Scalar.addi v2 c5_i32_333
  let c16_i32_334 : BitVec 32 := 16#32
  let v398 : BitVec 32 := Scalar.remsi v397 c16_i32_334
  let c1_i32_335 : BitVec 32 := 1#32
  let v399 : BitVec 32 := Scalar.muli v398 c1_i32_335
  let v400 : BitVec 32 := Scalar.addi c0_i32_336 v399
  v400.toNat
def k0_dev38 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_341 : BitVec 32 := 11#32
  let v409 : BitVec 32 := Scalar.addi v2 c11_i32_341
  let c16_i32_342 : BitVec 32 := 16#32
  let v410 : BitVec 32 := Scalar.remsi v409 c16_i32_342
  let c1_i32_343 : BitVec 32 := 1#32
  let v411 : BitVec 32 := Scalar.muli v410 c1_i32_343
  let v412 : BitVec 32 := Scalar.addi c0_i32_344 v411
  v412.toNat
def k0_dev39 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_349 : BitVec 32 := 4#32
  let v421 : BitVec 32 := Scalar.addi v2 c4_i32_349
  let c16_i32_350 : BitVec 32 := 16#32
  let v422 : BitVec 32 := Scalar.remsi v421 c16_i32_350
  let c1_i32_351 : BitVec 32 := 1#32
  let v423 : BitVec 32 := Scalar.muli v422 c1_i32_351
  let v424 : BitVec 32 := Scalar.addi c0_i32_352 v423
  v424.toNat
def k0_dev40 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_357 : BitVec 32 := 12#32
  let v433 : BitVec 32 := Scalar.addi v2 c12_i32_357
  let c16_i32_358 : BitVec 32 := 16#32
  let v434 : BitVec 32 := Scalar.remsi v433 c16_i32_358
  let c1_i32_359 : BitVec 32 := 1#32
  let v435 : BitVec 32 := Scalar.muli v434 c1_i32_359
  let v436 : BitVec 32 := Scalar.addi c0_i32_360 v435
  v436.toNat
def k0_dev41 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_365 : BitVec 32 := 3#32
  let v445 : BitVec 32 := Scalar.addi v2 c3_i32_365
  let c16_i32_366 : BitVec 32 := 16#32
  let v446 : BitVec 32 := Scalar.remsi v445 c16_i32_366
  let c1_i32_367 : BitVec 32 := 1#32
  let v447 : BitVec 32 := Scalar.muli v446 c1_i32_367
  let v448 : BitVec 32 := Scalar.addi c0_i32_368 v447
  v448.toNat
def k0_dev42 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_373 : BitVec 32 := 13#32
  let v457 : BitVec 32 := Scalar.addi v2 c13_i32_373
  let c16_i32_374 : BitVec 32 := 16#32
  let v458 : BitVec 32 := Scalar.remsi v457 c16_i32_374
  let c1_i32_375 : BitVec 32 := 1#32
  let v459 : BitVec 32 := Scalar.muli v458 c1_i32_375
  let v460 : BitVec 32 := Scalar.addi c0_i32_376 v459
  v460.toNat
def k0_dev43 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_381 : BitVec 32 := 2#32
  let v469 : BitVec 32 := Scalar.addi v2 c2_i32_381
  let c16_i32_382 : BitVec 32 := 16#32
  let v470 : BitVec 32 := Scalar.remsi v469 c16_i32_382
  let c1_i32_383 : BitVec 32 := 1#32
  let v471 : BitVec 32 := Scalar.muli v470 c1_i32_383
  let v472 : BitVec 32 := Scalar.addi c0_i32_384 v471
  v472.toNat
def k0_dev44 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_389 : BitVec 32 := 14#32
  let v481 : BitVec 32 := Scalar.addi v2 c14_i32_389
  let c16_i32_390 : BitVec 32 := 16#32
  let v482 : BitVec 32 := Scalar.remsi v481 c16_i32_390
  let c1_i32_391 : BitVec 32 := 1#32
  let v483 : BitVec 32 := Scalar.muli v482 c1_i32_391
  let v484 : BitVec 32 := Scalar.addi c0_i32_392 v483
  v484.toNat
def k0_dev45 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_397 : BitVec 32 := 1#32
  let v493 : BitVec 32 := Scalar.addi v2 c1_i32_397
  let c16_i32_398 : BitVec 32 := 16#32
  let v494 : BitVec 32 := Scalar.remsi v493 c16_i32_398
  let c1_i32_399 : BitVec 32 := 1#32
  let v495 : BitVec 32 := Scalar.muli v494 c1_i32_399
  let v496 : BitVec 32 := Scalar.addi c0_i32_400 v495
  v496.toNat
def k0_dev46 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_405 : BitVec 32 := 15#32
  let v505 : BitVec 32 := Scalar.addi v2 c15_i32_405
  let c16_i32_406 : BitVec 32 := 16#32
  let v506 : BitVec 32 := Scalar.remsi v505 c16_i32_406
  let c1_i32_407 : BitVec 32 := 1#32
  let v507 : BitVec 32 := Scalar.muli v506 c1_i32_407
  let v508 : BitVec 32 := Scalar.addi c0_i32_408 v507
  v508.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_539 : BitVec 32 := 0#32
  let v665 : BitVec 1 := Scalar.cmpi .ne v2 c0_i32_539
  let v666 : BitVec 32 := Scalar.extui v665
  let c0_i32_540 : BitVec 32 := 0#32
  let v667 : BitVec 1 := Scalar.cmpi .ne v666 c0_i32_540
  v667

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev47 : Nat :=
  let c0_i32_1994 : BitVec 32 := 0#32
  let c0_i32_1992 : BitVec 32 := 0#32
  let c1_i32_1993 : BitVec 32 := 1#32
  let v2401 : BitVec 32 := Scalar.muli c0_i32_1992 c1_i32_1993
  let v2402 : BitVec 32 := Scalar.addi c0_i32_1994 v2401
  v2402.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_541 : BitVec 32 := 1#32
  let v668 : BitVec 1 := Scalar.cmpi .ne v2 c1_i32_541
  let v669 : BitVec 32 := Scalar.extui v668
  let c0_i32_542 : BitVec 32 := 0#32
  let v670 : BitVec 1 := Scalar.cmpi .ne v669 c0_i32_542
  v670

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev48 : Nat :=
  let c0_i32_1994 : BitVec 32 := 0#32
  let c1_i32_1992 : BitVec 32 := 1#32
  let c1_i32_1993 : BitVec 32 := 1#32
  let v2401 : BitVec 32 := Scalar.muli c1_i32_1992 c1_i32_1993
  let v2402 : BitVec 32 := Scalar.addi c0_i32_1994 v2401
  v2402.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_543 : BitVec 32 := 2#32
  let v671 : BitVec 1 := Scalar.cmpi .ne v2 c2_i32_543
  let v672 : BitVec 32 := Scalar.extui v671
  let c0_i32_544 : BitVec 32 := 0#32
  let v673 : BitVec 1 := Scalar.cmpi .ne v672 c0_i32_544
  v673

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev49 : Nat :=
  let c0_i32_1994 : BitVec 32 := 0#32
  let c2_i32_1992 : BitVec 32 := 2#32
  let c1_i32_1993 : BitVec 32 := 1#32
  let v2401 : BitVec 32 := Scalar.muli c2_i32_1992 c1_i32_1993
  let v2402 : BitVec 32 := Scalar.addi c0_i32_1994 v2401
  v2402.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_545 : BitVec 32 := 3#32
  let v674 : BitVec 1 := Scalar.cmpi .ne v2 c3_i32_545
  let v675 : BitVec 32 := Scalar.extui v674
  let c0_i32_546 : BitVec 32 := 0#32
  let v676 : BitVec 1 := Scalar.cmpi .ne v675 c0_i32_546
  v676

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev50 : Nat :=
  let c0_i32_1994 : BitVec 32 := 0#32
  let c3_i32_1992 : BitVec 32 := 3#32
  let c1_i32_1993 : BitVec 32 := 1#32
  let v2401 : BitVec 32 := Scalar.muli c3_i32_1992 c1_i32_1993
  let v2402 : BitVec 32 := Scalar.addi c0_i32_1994 v2401
  v2402.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_568 : BitVec 32 := 4#32
  let v705 : BitVec 1 := Scalar.cmpi .ne v2 c4_i32_568
  let v706 : BitVec 32 := Scalar.extui v705
  let c0_i32_569 : BitVec 32 := 0#32
  let v707 : BitVec 1 := Scalar.cmpi .ne v706 c0_i32_569
  v707

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev51 : Nat :=
  let c0_i32_1994 : BitVec 32 := 0#32
  let c4_i32_1992 : BitVec 32 := 4#32
  let c1_i32_1993 : BitVec 32 := 1#32
  let v2401 : BitVec 32 := Scalar.muli c4_i32_1992 c1_i32_1993
  let v2402 : BitVec 32 := Scalar.addi c0_i32_1994 v2401
  v2402.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_570 : BitVec 32 := 5#32
  let v708 : BitVec 1 := Scalar.cmpi .ne v2 c5_i32_570
  let v709 : BitVec 32 := Scalar.extui v708
  let c0_i32_571 : BitVec 32 := 0#32
  let v710 : BitVec 1 := Scalar.cmpi .ne v709 c0_i32_571
  v710

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev52 : Nat :=
  let c0_i32_1994 : BitVec 32 := 0#32
  let c5_i32_1992 : BitVec 32 := 5#32
  let c1_i32_1993 : BitVec 32 := 1#32
  let v2401 : BitVec 32 := Scalar.muli c5_i32_1992 c1_i32_1993
  let v2402 : BitVec 32 := Scalar.addi c0_i32_1994 v2401
  v2402.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_572 : BitVec 32 := 6#32
  let v711 : BitVec 1 := Scalar.cmpi .ne v2 c6_i32_572
  let v712 : BitVec 32 := Scalar.extui v711
  let c0_i32_573 : BitVec 32 := 0#32
  let v713 : BitVec 1 := Scalar.cmpi .ne v712 c0_i32_573
  v713

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev53 : Nat :=
  let c0_i32_1994 : BitVec 32 := 0#32
  let c6_i32_1992 : BitVec 32 := 6#32
  let c1_i32_1993 : BitVec 32 := 1#32
  let v2401 : BitVec 32 := Scalar.muli c6_i32_1992 c1_i32_1993
  let v2402 : BitVec 32 := Scalar.addi c0_i32_1994 v2401
  v2402.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_574 : BitVec 32 := 7#32
  let v714 : BitVec 1 := Scalar.cmpi .ne v2 c7_i32_574
  let v715 : BitVec 32 := Scalar.extui v714
  let c0_i32_575 : BitVec 32 := 0#32
  let v716 : BitVec 1 := Scalar.cmpi .ne v715 c0_i32_575
  v716

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev54 : Nat :=
  let c0_i32_1994 : BitVec 32 := 0#32
  let c7_i32_1992 : BitVec 32 := 7#32
  let c1_i32_1993 : BitVec 32 := 1#32
  let v2401 : BitVec 32 := Scalar.muli c7_i32_1992 c1_i32_1993
  let v2402 : BitVec 32 := Scalar.addi c0_i32_1994 v2401
  v2402.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_597 : BitVec 32 := 8#32
  let v745 : BitVec 1 := Scalar.cmpi .ne v2 c8_i32_597
  let v746 : BitVec 32 := Scalar.extui v745
  let c0_i32_598 : BitVec 32 := 0#32
  let v747 : BitVec 1 := Scalar.cmpi .ne v746 c0_i32_598
  v747

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev55 : Nat :=
  let c0_i32_1994 : BitVec 32 := 0#32
  let c8_i32_1992 : BitVec 32 := 8#32
  let c1_i32_1993 : BitVec 32 := 1#32
  let v2401 : BitVec 32 := Scalar.muli c8_i32_1992 c1_i32_1993
  let v2402 : BitVec 32 := Scalar.addi c0_i32_1994 v2401
  v2402.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_599 : BitVec 32 := 9#32
  let v748 : BitVec 1 := Scalar.cmpi .ne v2 c9_i32_599
  let v749 : BitVec 32 := Scalar.extui v748
  let c0_i32_600 : BitVec 32 := 0#32
  let v750 : BitVec 1 := Scalar.cmpi .ne v749 c0_i32_600
  v750

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev56 : Nat :=
  let c0_i32_1994 : BitVec 32 := 0#32
  let c9_i32_1992 : BitVec 32 := 9#32
  let c1_i32_1993 : BitVec 32 := 1#32
  let v2401 : BitVec 32 := Scalar.muli c9_i32_1992 c1_i32_1993
  let v2402 : BitVec 32 := Scalar.addi c0_i32_1994 v2401
  v2402.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_601 : BitVec 32 := 10#32
  let v751 : BitVec 1 := Scalar.cmpi .ne v2 c10_i32_601
  let v752 : BitVec 32 := Scalar.extui v751
  let c0_i32_602 : BitVec 32 := 0#32
  let v753 : BitVec 1 := Scalar.cmpi .ne v752 c0_i32_602
  v753

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev57 : Nat :=
  let c0_i32_1994 : BitVec 32 := 0#32
  let c10_i32_1992 : BitVec 32 := 10#32
  let c1_i32_1993 : BitVec 32 := 1#32
  let v2401 : BitVec 32 := Scalar.muli c10_i32_1992 c1_i32_1993
  let v2402 : BitVec 32 := Scalar.addi c0_i32_1994 v2401
  v2402.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_603 : BitVec 32 := 11#32
  let v754 : BitVec 1 := Scalar.cmpi .ne v2 c11_i32_603
  let v755 : BitVec 32 := Scalar.extui v754
  let c0_i32_604 : BitVec 32 := 0#32
  let v756 : BitVec 1 := Scalar.cmpi .ne v755 c0_i32_604
  v756

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev58 : Nat :=
  let c0_i32_1994 : BitVec 32 := 0#32
  let c11_i32_1992 : BitVec 32 := 11#32
  let c1_i32_1993 : BitVec 32 := 1#32
  let v2401 : BitVec 32 := Scalar.muli c11_i32_1992 c1_i32_1993
  let v2402 : BitVec 32 := Scalar.addi c0_i32_1994 v2401
  v2402.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_626 : BitVec 32 := 12#32
  let v785 : BitVec 1 := Scalar.cmpi .ne v2 c12_i32_626
  let v786 : BitVec 32 := Scalar.extui v785
  let c0_i32_627 : BitVec 32 := 0#32
  let v787 : BitVec 1 := Scalar.cmpi .ne v786 c0_i32_627
  v787

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev59 : Nat :=
  let c0_i32_1994 : BitVec 32 := 0#32
  let c12_i32_1992 : BitVec 32 := 12#32
  let c1_i32_1993 : BitVec 32 := 1#32
  let v2401 : BitVec 32 := Scalar.muli c12_i32_1992 c1_i32_1993
  let v2402 : BitVec 32 := Scalar.addi c0_i32_1994 v2401
  v2402.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v788 : BitVec 1 := Scalar.cmpi .ne v2 c13_i32_628
  let v789 : BitVec 32 := Scalar.extui v788
  let c0_i32_629 : BitVec 32 := 0#32
  let v790 : BitVec 1 := Scalar.cmpi .ne v789 c0_i32_629
  v790

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev60 : Nat :=
  let c0_i32_1994 : BitVec 32 := 0#32
  let c13_i32_1992 : BitVec 32 := 13#32
  let c1_i32_1993 : BitVec 32 := 1#32
  let v2401 : BitVec 32 := Scalar.muli c13_i32_1992 c1_i32_1993
  let v2402 : BitVec 32 := Scalar.addi c0_i32_1994 v2401
  v2402.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_630 : BitVec 32 := 14#32
  let v791 : BitVec 1 := Scalar.cmpi .ne v2 c14_i32_630
  let v792 : BitVec 32 := Scalar.extui v791
  let c0_i32_631 : BitVec 32 := 0#32
  let v793 : BitVec 1 := Scalar.cmpi .ne v792 c0_i32_631
  v793

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev61 : Nat :=
  let c0_i32_1994 : BitVec 32 := 0#32
  let c14_i32_1992 : BitVec 32 := 14#32
  let c1_i32_1993 : BitVec 32 := 1#32
  let v2401 : BitVec 32 := Scalar.muli c14_i32_1992 c1_i32_1993
  let v2402 : BitVec 32 := Scalar.addi c0_i32_1994 v2401
  v2402.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_632 : BitVec 32 := 15#32
  let v794 : BitVec 1 := Scalar.cmpi .ne v2 c15_i32_632
  let v795 : BitVec 32 := Scalar.extui v794
  let c0_i32_633 : BitVec 32 := 0#32
  let v796 : BitVec 1 := Scalar.cmpi .ne v795 c0_i32_633
  v796

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev62 : Nat :=
  let c0_i32_1994 : BitVec 32 := 0#32
  let c15_i32_1992 : BitVec 32 := 15#32
  let c1_i32_1993 : BitVec 32 := 1#32
  let v2401 : BitVec 32 := Scalar.muli c15_i32_1992 c1_i32_1993
  let v2402 : BitVec 32 := Scalar.addi c0_i32_1994 v2401
  v2402.toNat
def k0_dev63 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_899 : BitVec 32 := 8#32
  let v1082 : BitVec 32 := Scalar.addi v2 c8_i32_899
  let c16_i32_900 : BitVec 32 := 16#32
  let v1083 : BitVec 32 := Scalar.remsi v1082 c16_i32_900
  let c1_i32_901 : BitVec 32 := 1#32
  let v1084 : BitVec 32 := Scalar.muli v1083 c1_i32_901
  let v1085 : BitVec 32 := Scalar.addi c0_i32_902 v1084
  v1085.toNat
def k0_dev64 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_907 : BitVec 32 := 7#32
  let v1094 : BitVec 32 := Scalar.addi v2 c7_i32_907
  let c16_i32_908 : BitVec 32 := 16#32
  let v1095 : BitVec 32 := Scalar.remsi v1094 c16_i32_908
  let c1_i32_909 : BitVec 32 := 1#32
  let v1096 : BitVec 32 := Scalar.muli v1095 c1_i32_909
  let v1097 : BitVec 32 := Scalar.addi c0_i32_910 v1096
  v1097.toNat
def k0_dev65 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_915 : BitVec 32 := 9#32
  let v1106 : BitVec 32 := Scalar.addi v2 c9_i32_915
  let c16_i32_916 : BitVec 32 := 16#32
  let v1107 : BitVec 32 := Scalar.remsi v1106 c16_i32_916
  let c1_i32_917 : BitVec 32 := 1#32
  let v1108 : BitVec 32 := Scalar.muli v1107 c1_i32_917
  let v1109 : BitVec 32 := Scalar.addi c0_i32_918 v1108
  v1109.toNat
def k0_dev66 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_923 : BitVec 32 := 6#32
  let v1118 : BitVec 32 := Scalar.addi v2 c6_i32_923
  let c16_i32_924 : BitVec 32 := 16#32
  let v1119 : BitVec 32 := Scalar.remsi v1118 c16_i32_924
  let c1_i32_925 : BitVec 32 := 1#32
  let v1120 : BitVec 32 := Scalar.muli v1119 c1_i32_925
  let v1121 : BitVec 32 := Scalar.addi c0_i32_926 v1120
  v1121.toNat
def k0_dev67 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_931 : BitVec 32 := 10#32
  let v1130 : BitVec 32 := Scalar.addi v2 c10_i32_931
  let c16_i32_932 : BitVec 32 := 16#32
  let v1131 : BitVec 32 := Scalar.remsi v1130 c16_i32_932
  let c1_i32_933 : BitVec 32 := 1#32
  let v1132 : BitVec 32 := Scalar.muli v1131 c1_i32_933
  let v1133 : BitVec 32 := Scalar.addi c0_i32_934 v1132
  v1133.toNat
def k0_dev68 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_939 : BitVec 32 := 5#32
  let v1142 : BitVec 32 := Scalar.addi v2 c5_i32_939
  let c16_i32_940 : BitVec 32 := 16#32
  let v1143 : BitVec 32 := Scalar.remsi v1142 c16_i32_940
  let c1_i32_941 : BitVec 32 := 1#32
  let v1144 : BitVec 32 := Scalar.muli v1143 c1_i32_941
  let v1145 : BitVec 32 := Scalar.addi c0_i32_942 v1144
  v1145.toNat
def k0_dev69 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_947 : BitVec 32 := 11#32
  let v1154 : BitVec 32 := Scalar.addi v2 c11_i32_947
  let c16_i32_948 : BitVec 32 := 16#32
  let v1155 : BitVec 32 := Scalar.remsi v1154 c16_i32_948
  let c1_i32_949 : BitVec 32 := 1#32
  let v1156 : BitVec 32 := Scalar.muli v1155 c1_i32_949
  let v1157 : BitVec 32 := Scalar.addi c0_i32_950 v1156
  v1157.toNat
def k0_dev70 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_955 : BitVec 32 := 4#32
  let v1166 : BitVec 32 := Scalar.addi v2 c4_i32_955
  let c16_i32_956 : BitVec 32 := 16#32
  let v1167 : BitVec 32 := Scalar.remsi v1166 c16_i32_956
  let c1_i32_957 : BitVec 32 := 1#32
  let v1168 : BitVec 32 := Scalar.muli v1167 c1_i32_957
  let v1169 : BitVec 32 := Scalar.addi c0_i32_958 v1168
  v1169.toNat
def k0_dev71 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_963 : BitVec 32 := 12#32
  let v1178 : BitVec 32 := Scalar.addi v2 c12_i32_963
  let c16_i32_964 : BitVec 32 := 16#32
  let v1179 : BitVec 32 := Scalar.remsi v1178 c16_i32_964
  let c1_i32_965 : BitVec 32 := 1#32
  let v1180 : BitVec 32 := Scalar.muli v1179 c1_i32_965
  let v1181 : BitVec 32 := Scalar.addi c0_i32_966 v1180
  v1181.toNat
def k0_dev72 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_971 : BitVec 32 := 3#32
  let v1190 : BitVec 32 := Scalar.addi v2 c3_i32_971
  let c16_i32_972 : BitVec 32 := 16#32
  let v1191 : BitVec 32 := Scalar.remsi v1190 c16_i32_972
  let c1_i32_973 : BitVec 32 := 1#32
  let v1192 : BitVec 32 := Scalar.muli v1191 c1_i32_973
  let v1193 : BitVec 32 := Scalar.addi c0_i32_974 v1192
  v1193.toNat
def k0_dev73 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_979 : BitVec 32 := 13#32
  let v1202 : BitVec 32 := Scalar.addi v2 c13_i32_979
  let c16_i32_980 : BitVec 32 := 16#32
  let v1203 : BitVec 32 := Scalar.remsi v1202 c16_i32_980
  let c1_i32_981 : BitVec 32 := 1#32
  let v1204 : BitVec 32 := Scalar.muli v1203 c1_i32_981
  let v1205 : BitVec 32 := Scalar.addi c0_i32_982 v1204
  v1205.toNat
def k0_dev74 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_987 : BitVec 32 := 2#32
  let v1214 : BitVec 32 := Scalar.addi v2 c2_i32_987
  let c16_i32_988 : BitVec 32 := 16#32
  let v1215 : BitVec 32 := Scalar.remsi v1214 c16_i32_988
  let c1_i32_989 : BitVec 32 := 1#32
  let v1216 : BitVec 32 := Scalar.muli v1215 c1_i32_989
  let v1217 : BitVec 32 := Scalar.addi c0_i32_990 v1216
  v1217.toNat
def k0_dev75 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_995 : BitVec 32 := 14#32
  let v1226 : BitVec 32 := Scalar.addi v2 c14_i32_995
  let c16_i32_996 : BitVec 32 := 16#32
  let v1227 : BitVec 32 := Scalar.remsi v1226 c16_i32_996
  let c1_i32_997 : BitVec 32 := 1#32
  let v1228 : BitVec 32 := Scalar.muli v1227 c1_i32_997
  let v1229 : BitVec 32 := Scalar.addi c0_i32_998 v1228
  v1229.toNat
def k0_dev76 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1003 : BitVec 32 := 1#32
  let v1238 : BitVec 32 := Scalar.addi v2 c1_i32_1003
  let c16_i32_1004 : BitVec 32 := 16#32
  let v1239 : BitVec 32 := Scalar.remsi v1238 c16_i32_1004
  let c1_i32_1005 : BitVec 32 := 1#32
  let v1240 : BitVec 32 := Scalar.muli v1239 c1_i32_1005
  let v1241 : BitVec 32 := Scalar.addi c0_i32_1006 v1240
  v1241.toNat
def k0_dev77 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1011 : BitVec 32 := 15#32
  let v1250 : BitVec 32 := Scalar.addi v2 c15_i32_1011
  let c16_i32_1012 : BitVec 32 := 16#32
  let v1251 : BitVec 32 := Scalar.remsi v1250 c16_i32_1012
  let c1_i32_1013 : BitVec 32 := 1#32
  let v1252 : BitVec 32 := Scalar.muli v1251 c1_i32_1013
  let v1253 : BitVec 32 := Scalar.addi c0_i32_1014 v1252
  v1253.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1145 : BitVec 32 := 0#32
  let v1410 : BitVec 1 := Scalar.cmpi .ne v2 c0_i32_1145
  let v1411 : BitVec 32 := Scalar.extui v1410
  let c0_i32_1146 : BitVec 32 := 0#32
  let v1412 : BitVec 1 := Scalar.cmpi .ne v1411 c0_i32_1146
  v1412

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev78 : Nat :=
  let c0_i32_1994 : BitVec 32 := 0#32
  let c0_i32_1992 : BitVec 32 := 0#32
  let c1_i32_1993 : BitVec 32 := 1#32
  let v2401 : BitVec 32 := Scalar.muli c0_i32_1992 c1_i32_1993
  let v2402 : BitVec 32 := Scalar.addi c0_i32_1994 v2401
  v2402.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1147 : BitVec 32 := 1#32
  let v1413 : BitVec 1 := Scalar.cmpi .ne v2 c1_i32_1147
  let v1414 : BitVec 32 := Scalar.extui v1413
  let c0_i32_1148 : BitVec 32 := 0#32
  let v1415 : BitVec 1 := Scalar.cmpi .ne v1414 c0_i32_1148
  v1415

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev79 : Nat :=
  let c0_i32_1994 : BitVec 32 := 0#32
  let c1_i32_1992 : BitVec 32 := 1#32
  let c1_i32_1993 : BitVec 32 := 1#32
  let v2401 : BitVec 32 := Scalar.muli c1_i32_1992 c1_i32_1993
  let v2402 : BitVec 32 := Scalar.addi c0_i32_1994 v2401
  v2402.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1149 : BitVec 32 := 2#32
  let v1416 : BitVec 1 := Scalar.cmpi .ne v2 c2_i32_1149
  let v1417 : BitVec 32 := Scalar.extui v1416
  let c0_i32_1150 : BitVec 32 := 0#32
  let v1418 : BitVec 1 := Scalar.cmpi .ne v1417 c0_i32_1150
  v1418

def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev80 : Nat :=
  let c0_i32_1994 : BitVec 32 := 0#32
  let c2_i32_1992 : BitVec 32 := 2#32
  let c1_i32_1993 : BitVec 32 := 1#32
  let v2401 : BitVec 32 := Scalar.muli c2_i32_1992 c1_i32_1993
  let v2402 : BitVec 32 := Scalar.addi c0_i32_1994 v2401
  v2402.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1151 : BitVec 32 := 3#32
  let v1419 : BitVec 1 := Scalar.cmpi .ne v2 c3_i32_1151
  let v1420 : BitVec 32 := Scalar.extui v1419
  let c0_i32_1152 : BitVec 32 := 0#32
  let v1421 : BitVec 1 := Scalar.cmpi .ne v1420 c0_i32_1152
  v1421

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev81 : Nat :=
  let c0_i32_1994 : BitVec 32 := 0#32
  let c3_i32_1992 : BitVec 32 := 3#32
  let c1_i32_1993 : BitVec 32 := 1#32
  let v2401 : BitVec 32 := Scalar.muli c3_i32_1992 c1_i32_1993
  let v2402 : BitVec 32 := Scalar.addi c0_i32_1994 v2401
  v2402.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1174 : BitVec 32 := 4#32
  let v1450 : BitVec 1 := Scalar.cmpi .ne v2 c4_i32_1174
  let v1451 : BitVec 32 := Scalar.extui v1450
  let c0_i32_1175 : BitVec 32 := 0#32
  let v1452 : BitVec 1 := Scalar.cmpi .ne v1451 c0_i32_1175
  v1452

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev82 : Nat :=
  let c0_i32_1994 : BitVec 32 := 0#32
  let c4_i32_1992 : BitVec 32 := 4#32
  let c1_i32_1993 : BitVec 32 := 1#32
  let v2401 : BitVec 32 := Scalar.muli c4_i32_1992 c1_i32_1993
  let v2402 : BitVec 32 := Scalar.addi c0_i32_1994 v2401
  v2402.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1176 : BitVec 32 := 5#32
  let v1453 : BitVec 1 := Scalar.cmpi .ne v2 c5_i32_1176
  let v1454 : BitVec 32 := Scalar.extui v1453
  let c0_i32_1177 : BitVec 32 := 0#32
  let v1455 : BitVec 1 := Scalar.cmpi .ne v1454 c0_i32_1177
  v1455

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev83 : Nat :=
  let c0_i32_1994 : BitVec 32 := 0#32
  let c5_i32_1992 : BitVec 32 := 5#32
  let c1_i32_1993 : BitVec 32 := 1#32
  let v2401 : BitVec 32 := Scalar.muli c5_i32_1992 c1_i32_1993
  let v2402 : BitVec 32 := Scalar.addi c0_i32_1994 v2401
  v2402.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1178 : BitVec 32 := 6#32
  let v1456 : BitVec 1 := Scalar.cmpi .ne v2 c6_i32_1178
  let v1457 : BitVec 32 := Scalar.extui v1456
  let c0_i32_1179 : BitVec 32 := 0#32
  let v1458 : BitVec 1 := Scalar.cmpi .ne v1457 c0_i32_1179
  v1458

def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev84 : Nat :=
  let c0_i32_1994 : BitVec 32 := 0#32
  let c6_i32_1992 : BitVec 32 := 6#32
  let c1_i32_1993 : BitVec 32 := 1#32
  let v2401 : BitVec 32 := Scalar.muli c6_i32_1992 c1_i32_1993
  let v2402 : BitVec 32 := Scalar.addi c0_i32_1994 v2401
  v2402.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1180 : BitVec 32 := 7#32
  let v1459 : BitVec 1 := Scalar.cmpi .ne v2 c7_i32_1180
  let v1460 : BitVec 32 := Scalar.extui v1459
  let c0_i32_1181 : BitVec 32 := 0#32
  let v1461 : BitVec 1 := Scalar.cmpi .ne v1460 c0_i32_1181
  v1461

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev85 : Nat :=
  let c0_i32_1994 : BitVec 32 := 0#32
  let c7_i32_1992 : BitVec 32 := 7#32
  let c1_i32_1993 : BitVec 32 := 1#32
  let v2401 : BitVec 32 := Scalar.muli c7_i32_1992 c1_i32_1993
  let v2402 : BitVec 32 := Scalar.addi c0_i32_1994 v2401
  v2402.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1203 : BitVec 32 := 8#32
  let v1490 : BitVec 1 := Scalar.cmpi .ne v2 c8_i32_1203
  let v1491 : BitVec 32 := Scalar.extui v1490
  let c0_i32_1204 : BitVec 32 := 0#32
  let v1492 : BitVec 1 := Scalar.cmpi .ne v1491 c0_i32_1204
  v1492

def k0_off86 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev86 : Nat :=
  let c0_i32_1994 : BitVec 32 := 0#32
  let c8_i32_1992 : BitVec 32 := 8#32
  let c1_i32_1993 : BitVec 32 := 1#32
  let v2401 : BitVec 32 := Scalar.muli c8_i32_1992 c1_i32_1993
  let v2402 : BitVec 32 := Scalar.addi c0_i32_1994 v2401
  v2402.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1205 : BitVec 32 := 9#32
  let v1493 : BitVec 1 := Scalar.cmpi .ne v2 c9_i32_1205
  let v1494 : BitVec 32 := Scalar.extui v1493
  let c0_i32_1206 : BitVec 32 := 0#32
  let v1495 : BitVec 1 := Scalar.cmpi .ne v1494 c0_i32_1206
  v1495

def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev87 : Nat :=
  let c0_i32_1994 : BitVec 32 := 0#32
  let c9_i32_1992 : BitVec 32 := 9#32
  let c1_i32_1993 : BitVec 32 := 1#32
  let v2401 : BitVec 32 := Scalar.muli c9_i32_1992 c1_i32_1993
  let v2402 : BitVec 32 := Scalar.addi c0_i32_1994 v2401
  v2402.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1207 : BitVec 32 := 10#32
  let v1496 : BitVec 1 := Scalar.cmpi .ne v2 c10_i32_1207
  let v1497 : BitVec 32 := Scalar.extui v1496
  let c0_i32_1208 : BitVec 32 := 0#32
  let v1498 : BitVec 1 := Scalar.cmpi .ne v1497 c0_i32_1208
  v1498

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev88 : Nat :=
  let c0_i32_1994 : BitVec 32 := 0#32
  let c10_i32_1992 : BitVec 32 := 10#32
  let c1_i32_1993 : BitVec 32 := 1#32
  let v2401 : BitVec 32 := Scalar.muli c10_i32_1992 c1_i32_1993
  let v2402 : BitVec 32 := Scalar.addi c0_i32_1994 v2401
  v2402.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1209 : BitVec 32 := 11#32
  let v1499 : BitVec 1 := Scalar.cmpi .ne v2 c11_i32_1209
  let v1500 : BitVec 32 := Scalar.extui v1499
  let c0_i32_1210 : BitVec 32 := 0#32
  let v1501 : BitVec 1 := Scalar.cmpi .ne v1500 c0_i32_1210
  v1501

def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev89 : Nat :=
  let c0_i32_1994 : BitVec 32 := 0#32
  let c11_i32_1992 : BitVec 32 := 11#32
  let c1_i32_1993 : BitVec 32 := 1#32
  let v2401 : BitVec 32 := Scalar.muli c11_i32_1992 c1_i32_1993
  let v2402 : BitVec 32 := Scalar.addi c0_i32_1994 v2401
  v2402.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1232 : BitVec 32 := 12#32
  let v1530 : BitVec 1 := Scalar.cmpi .ne v2 c12_i32_1232
  let v1531 : BitVec 32 := Scalar.extui v1530
  let c0_i32_1233 : BitVec 32 := 0#32
  let v1532 : BitVec 1 := Scalar.cmpi .ne v1531 c0_i32_1233
  v1532

def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev90 : Nat :=
  let c0_i32_1994 : BitVec 32 := 0#32
  let c12_i32_1992 : BitVec 32 := 12#32
  let c1_i32_1993 : BitVec 32 := 1#32
  let v2401 : BitVec 32 := Scalar.muli c12_i32_1992 c1_i32_1993
  let v2402 : BitVec 32 := Scalar.addi c0_i32_1994 v2401
  v2402.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1234 : BitVec 32 := 13#32
  let v1533 : BitVec 1 := Scalar.cmpi .ne v2 c13_i32_1234
  let v1534 : BitVec 32 := Scalar.extui v1533
  let c0_i32_1235 : BitVec 32 := 0#32
  let v1535 : BitVec 1 := Scalar.cmpi .ne v1534 c0_i32_1235
  v1535

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev91 : Nat :=
  let c0_i32_1994 : BitVec 32 := 0#32
  let c13_i32_1992 : BitVec 32 := 13#32
  let c1_i32_1993 : BitVec 32 := 1#32
  let v2401 : BitVec 32 := Scalar.muli c13_i32_1992 c1_i32_1993
  let v2402 : BitVec 32 := Scalar.addi c0_i32_1994 v2401
  v2402.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1236 : BitVec 32 := 14#32
  let v1536 : BitVec 1 := Scalar.cmpi .ne v2 c14_i32_1236
  let v1537 : BitVec 32 := Scalar.extui v1536
  let c0_i32_1237 : BitVec 32 := 0#32
  let v1538 : BitVec 1 := Scalar.cmpi .ne v1537 c0_i32_1237
  v1538

def k0_off98 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev92 : Nat :=
  let c0_i32_1994 : BitVec 32 := 0#32
  let c14_i32_1992 : BitVec 32 := 14#32
  let c1_i32_1993 : BitVec 32 := 1#32
  let v2401 : BitVec 32 := Scalar.muli c14_i32_1992 c1_i32_1993
  let v2402 : BitVec 32 := Scalar.addi c0_i32_1994 v2401
  v2402.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1238 : BitVec 32 := 15#32
  let v1539 : BitVec 1 := Scalar.cmpi .ne v2 c15_i32_1238
  let v1540 : BitVec 32 := Scalar.extui v1539
  let c0_i32_1239 : BitVec 32 := 0#32
  let v1541 : BitVec 1 := Scalar.cmpi .ne v1540 c0_i32_1239
  v1541

def k0_off100 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1995 : BitVec 32 := 0#32
  let c0_i32_1996 : BitVec 32 := 0#32
  ![v2.toNat, 0, 0]
def k0_dev93 : Nat :=
  let c0_i32_1994 : BitVec 32 := 0#32
  let c15_i32_1992 : BitVec 32 := 15#32
  let c1_i32_1993 : BitVec 32 := 1#32
  let v2401 : BitVec 32 := Scalar.muli c15_i32_1992 c1_i32_1993
  let v2402 : BitVec 32 := Scalar.addi c0_i32_1994 v2401
  v2402.toNat
def k0_dev94 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1505 : BitVec 32 := 8#32
  let v1827 : BitVec 32 := Scalar.addi v2 c8_i32_1505
  let c16_i32_1506 : BitVec 32 := 16#32
  let v1828 : BitVec 32 := Scalar.remsi v1827 c16_i32_1506
  let c1_i32_1507 : BitVec 32 := 1#32
  let v1829 : BitVec 32 := Scalar.muli v1828 c1_i32_1507
  let v1830 : BitVec 32 := Scalar.addi c0_i32_1508 v1829
  v1830.toNat
def k0_dev95 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1513 : BitVec 32 := 7#32
  let v1839 : BitVec 32 := Scalar.addi v2 c7_i32_1513
  let c16_i32_1514 : BitVec 32 := 16#32
  let v1840 : BitVec 32 := Scalar.remsi v1839 c16_i32_1514
  let c1_i32_1515 : BitVec 32 := 1#32
  let v1841 : BitVec 32 := Scalar.muli v1840 c1_i32_1515
  let v1842 : BitVec 32 := Scalar.addi c0_i32_1516 v1841
  v1842.toNat
def k0_dev96 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1521 : BitVec 32 := 9#32
  let v1851 : BitVec 32 := Scalar.addi v2 c9_i32_1521
  let c16_i32_1522 : BitVec 32 := 16#32
  let v1852 : BitVec 32 := Scalar.remsi v1851 c16_i32_1522
  let c1_i32_1523 : BitVec 32 := 1#32
  let v1853 : BitVec 32 := Scalar.muli v1852 c1_i32_1523
  let v1854 : BitVec 32 := Scalar.addi c0_i32_1524 v1853
  v1854.toNat
def k0_dev97 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1529 : BitVec 32 := 6#32
  let v1863 : BitVec 32 := Scalar.addi v2 c6_i32_1529
  let c16_i32_1530 : BitVec 32 := 16#32
  let v1864 : BitVec 32 := Scalar.remsi v1863 c16_i32_1530
  let c1_i32_1531 : BitVec 32 := 1#32
  let v1865 : BitVec 32 := Scalar.muli v1864 c1_i32_1531
  let v1866 : BitVec 32 := Scalar.addi c0_i32_1532 v1865
  v1866.toNat
def k0_dev98 (d0 : Dev nD) : Nat :=
  let c0_i32_1540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1537 : BitVec 32 := 10#32
  let v1875 : BitVec 32 := Scalar.addi v2 c10_i32_1537
  let c16_i32_1538 : BitVec 32 := 16#32
  let v1876 : BitVec 32 := Scalar.remsi v1875 c16_i32_1538
  let c1_i32_1539 : BitVec 32 := 1#32
  let v1877 : BitVec 32 := Scalar.muli v1876 c1_i32_1539
  let v1878 : BitVec 32 := Scalar.addi c0_i32_1540 v1877
  v1878.toNat
def k0_dev99 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1545 : BitVec 32 := 5#32
  let v1887 : BitVec 32 := Scalar.addi v2 c5_i32_1545
  let c16_i32_1546 : BitVec 32 := 16#32
  let v1888 : BitVec 32 := Scalar.remsi v1887 c16_i32_1546
  let c1_i32_1547 : BitVec 32 := 1#32
  let v1889 : BitVec 32 := Scalar.muli v1888 c1_i32_1547
  let v1890 : BitVec 32 := Scalar.addi c0_i32_1548 v1889
  v1890.toNat
def k0_dev100 (d0 : Dev nD) : Nat :=
  let c0_i32_1556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1553 : BitVec 32 := 11#32
  let v1899 : BitVec 32 := Scalar.addi v2 c11_i32_1553
  let c16_i32_1554 : BitVec 32 := 16#32
  let v1900 : BitVec 32 := Scalar.remsi v1899 c16_i32_1554
  let c1_i32_1555 : BitVec 32 := 1#32
  let v1901 : BitVec 32 := Scalar.muli v1900 c1_i32_1555
  let v1902 : BitVec 32 := Scalar.addi c0_i32_1556 v1901
  v1902.toNat
def k0_dev101 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1561 : BitVec 32 := 4#32
  let v1911 : BitVec 32 := Scalar.addi v2 c4_i32_1561
  let c16_i32_1562 : BitVec 32 := 16#32
  let v1912 : BitVec 32 := Scalar.remsi v1911 c16_i32_1562
  let c1_i32_1563 : BitVec 32 := 1#32
  let v1913 : BitVec 32 := Scalar.muli v1912 c1_i32_1563
  let v1914 : BitVec 32 := Scalar.addi c0_i32_1564 v1913
  v1914.toNat
def k0_dev102 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1569 : BitVec 32 := 12#32
  let v1923 : BitVec 32 := Scalar.addi v2 c12_i32_1569
  let c16_i32_1570 : BitVec 32 := 16#32
  let v1924 : BitVec 32 := Scalar.remsi v1923 c16_i32_1570
  let c1_i32_1571 : BitVec 32 := 1#32
  let v1925 : BitVec 32 := Scalar.muli v1924 c1_i32_1571
  let v1926 : BitVec 32 := Scalar.addi c0_i32_1572 v1925
  v1926.toNat
def k0_dev103 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1577 : BitVec 32 := 3#32
  let v1935 : BitVec 32 := Scalar.addi v2 c3_i32_1577
  let c16_i32_1578 : BitVec 32 := 16#32
  let v1936 : BitVec 32 := Scalar.remsi v1935 c16_i32_1578
  let c1_i32_1579 : BitVec 32 := 1#32
  let v1937 : BitVec 32 := Scalar.muli v1936 c1_i32_1579
  let v1938 : BitVec 32 := Scalar.addi c0_i32_1580 v1937
  v1938.toNat
def k0_dev104 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1585 : BitVec 32 := 13#32
  let v1947 : BitVec 32 := Scalar.addi v2 c13_i32_1585
  let c16_i32_1586 : BitVec 32 := 16#32
  let v1948 : BitVec 32 := Scalar.remsi v1947 c16_i32_1586
  let c1_i32_1587 : BitVec 32 := 1#32
  let v1949 : BitVec 32 := Scalar.muli v1948 c1_i32_1587
  let v1950 : BitVec 32 := Scalar.addi c0_i32_1588 v1949
  v1950.toNat
def k0_dev105 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1593 : BitVec 32 := 2#32
  let v1959 : BitVec 32 := Scalar.addi v2 c2_i32_1593
  let c16_i32_1594 : BitVec 32 := 16#32
  let v1960 : BitVec 32 := Scalar.remsi v1959 c16_i32_1594
  let c1_i32_1595 : BitVec 32 := 1#32
  let v1961 : BitVec 32 := Scalar.muli v1960 c1_i32_1595
  let v1962 : BitVec 32 := Scalar.addi c0_i32_1596 v1961
  v1962.toNat
def k0_dev106 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1601 : BitVec 32 := 14#32
  let v1971 : BitVec 32 := Scalar.addi v2 c14_i32_1601
  let c16_i32_1602 : BitVec 32 := 16#32
  let v1972 : BitVec 32 := Scalar.remsi v1971 c16_i32_1602
  let c1_i32_1603 : BitVec 32 := 1#32
  let v1973 : BitVec 32 := Scalar.muli v1972 c1_i32_1603
  let v1974 : BitVec 32 := Scalar.addi c0_i32_1604 v1973
  v1974.toNat
def k0_dev107 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1609 : BitVec 32 := 1#32
  let v1983 : BitVec 32 := Scalar.addi v2 c1_i32_1609
  let c16_i32_1610 : BitVec 32 := 16#32
  let v1984 : BitVec 32 := Scalar.remsi v1983 c16_i32_1610
  let c1_i32_1611 : BitVec 32 := 1#32
  let v1985 : BitVec 32 := Scalar.muli v1984 c1_i32_1611
  let v1986 : BitVec 32 := Scalar.addi c0_i32_1612 v1985
  v1986.toNat
def k0_dev108 (d0 : Dev nD) : Nat :=
  let c0_i32_1620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1617 : BitVec 32 := 15#32
  let v1995 : BitVec 32 := Scalar.addi v2 c15_i32_1617
  let c16_i32_1618 : BitVec 32 := 16#32
  let v1996 : BitVec 32 := Scalar.remsi v1995 c16_i32_1618
  let c1_i32_1619 : BitVec 32 := 1#32
  let v1997 : BitVec 32 := Scalar.muli v1996 c1_i32_1619
  let v1998 : BitVec 32 := Scalar.addi c0_i32_1620 v1997
  v1998.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x8192 : Shape := ⟨2, ![256, 8192]⟩
abbrev S8192x256 : Shape := ⟨2, ![8192, 256]⟩
abbrev S512x8192 : Shape := ⟨2, ![512, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S512x256, .f32⟩
  | .hbm, ⟨12, _⟩ => ⟨S512x8192, .f32⟩
  | .hbm, ⟨13, _⟩ => ⟨S_, .f32⟩
  | .hbm, ⟨14, _⟩ => ⟨S512x8192, .f32⟩
  | .hbm, ⟨15, _⟩ => ⟨S512x8192, .f32⟩
  | .hbm, ⟨16, _⟩ => ⟨S512x256, .f32⟩
  | .hbm, ⟨17, _⟩ => ⟨S512x8192, .f32⟩
  | .hbm, ⟨18, _⟩ => ⟨S_, .f32⟩
  | .hbm, ⟨19, _⟩ => ⟨S512x8192, .f32⟩
  | .hbm, ⟨20, _⟩ => ⟨S512x8192, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
/-
# What each buffer holds, as plain functions of the inputs

Layer `l` turns a vector `X` of 512 tokens by 256 features (kept as 16 slots of 32 tokens) into the next one. Every
device multiplies all 512 tokens by its own slice of the weights (`part`), device `s` then adds the sixteen devices'
results for slot `s` (`gathered`, `next`), and the sixteen sums are exchanged again. Nothing here mentions memory.
-/
module

public import proofs.«01_k».proof.Proof.Gen.KernelIdeal
public import proofs.«01_k».proof.Proof.Gen.KernelIdeal.Skeleton
public import Idealize.ShloMosaic.Lib.ValueIdxCore

@[expose] public section

set_option maxRecDepth 16384

noncomputable section

namespace Cert.MlpProof

open Cert.KernelIdeal Cert.KernelIdeal.Gen
open Idealize.ShloMosaic Idealize.ShloMosaic.ValueIdx

variable {F : FTy → Type} [FloatOps F]

/-- The contents of one of the three 16 x 32 x 256 scratch buffers. -/
abbrev Big (F : FTy → Type) : Type := S16x32x256.Idx → Elt F .bf16

/-- What the devices are given: their copy of `x` and their slices of the three pairs of weights. -/
structure Inp (F : FTy → Type) where
  x : Dev nD → S512x256.Idx → Elt F .f32
  wi : ℕ → Dev nD → S256x512.Idx → Elt F .f32
  wo : ℕ → Dev nD → S512x256.Idx → Elt F .f32

/-- Tokens `128 g` to `128 g + 127` of the first layer's input. -/
def xrow (x : S512x256.Idx → Elt F .f32) (g : Fin 4) : S128x256.Idx → Elt F .f32 := fun i =>
  x (ix2 (n0 := 512) (n1 := 256) ⟨128 * g.val + (i 0).val, by have h : (i 0).val < 128 := (i 0).isLt; omega⟩ (i 1))

/-- Slots `4 g` to `4 g + 3` of a scratch buffer. -/
def xgrp (X : Big F) (g : Fin 4) : S4x32x256.Idx → Elt F .bf16 := fun i =>
  X (ix3 (n0 := 16) (n1 := 32) (n2 := 256) ⟨4 * g.val + (i 0).val, by have h : (i 0).val < 4 := (i 0).isLt; omega⟩ (i 1) (i 2))

/-- The slot an element is in. -/
def slotOf (i : S16x32x256.Idx) : Fin 16 := i 0

variable (I : Inp F)

/-- Device `c`'s result for group `g` of the tokens in layer `l`, the layer's input being `X`. -/
def grpOut (c : Dev nD) : ℕ → Big F → Fin 4 → S4x32x256.Idx → Elt F .bf16
  | 0, _, g => k0_pay3 (xrow (I.x c) g) (I.wi 0 c) (I.wo 0 c)
  | l + 1, X, g => k0_pay8 (xgrp X g) (I.wi (l + 1) c) (I.wo (l + 1) c)

/-- Device `c`'s result for all tokens in layer `l`. -/
def part (c : Dev nD) (l : ℕ) (X : Big F) : Big F := fun i =>
  grpOut I c l X ⟨(slotOf i).val / 4, by have h := (slotOf i).isLt; omega⟩
    (ix3 (n0 := 4) (n1 := 32) (n2 := 256) ⟨(slotOf i).val % 4, Nat.mod_lt _ (by decide)⟩ (i 1) (i 2))

/-- What device `s` collects in layer `l`: slot `s` of every device's result, in the slot of the device it is from. -/
def gathered (l : ℕ) (X : Big F) (s : Fin 16) : Big F := fun i =>
  part I (slotOf i) l X (ix3 (n0 := 16) (n1 := 32) (n2 := 256) s (i 1) (i 2))

/-- The layer's output: slot `s` is the sum device `s` forms of what it collected. -/
def next (l : ℕ) (X : Big F) : Big F := fun i =>
  k0_pay7 (gathered I l X (slotOf i)) (ix3 (n0 := 1) (n1 := 32) (n2 := 256) 0 (i 1) (i 2))

/-- The input of layer `l` (for `l = 0` a placeholder: that layer reads `x` instead). -/
def XB : ℕ → Big F
  | 0 => constant S16x32x256 .bf16 0x0000#16
  | l + 1 => next I l (XB l)

/-- Device `c`'s result in layer `l`. -/
def PB (l : ℕ) (c : Dev nD) : Big F := part I c l (XB I l)
/-- What device `s` collects in layer `l`. -/
def RB (l : ℕ) (s : Dev nD) : Big F := gathered I l (XB I l) s

/-- What every device writes out. -/
def result : S512x256.Idx → Elt F .f32 := k0_pay25 (XB I 3)

theorem XB_succ (l : ℕ) : XB I (l + 1) = next I l (XB I l) := rfl

end Cert.MlpProof
-- ==== Proof.Slots.lean ====
/-
# The slots of a scratch buffer

Each scratch buffer is 16 slots of 32 x 256. A transfer names one slot through a slice and a squeeze, a load or store
names one slot, four, or all of them by a rectangle. Here: which elements those are, and what reading or writing them
gives.
-/
module

public import proofs.«01_k».proof.Proof.Values
public import Idealize.ShloMosaic.Lib.ViewIndex

@[expose] public section

set_option maxRecDepth 16384

noncomputable section

namespace Cert.MlpProof

open Cert.KernelIdeal Cert.KernelIdeal.Gen
open Idealize.ShloMosaic Idealize.ShloMosaic.ValueIdx

/-! ## Sets of slots -/

/-- The elements of the slots in `T`. -/
def slots (T : Finset (Fin 16)) : Finset S16x32x256.Idx := Finset.univ.filter fun i => slotOf i ∈ T

theorem mem_slots {T : Finset (Fin 16)} {i : S16x32x256.Idx} : i ∈ slots T ↔ slotOf i ∈ T := by
  unfold slots; rw [Finset.mem_filter]; exact ⟨fun h => h.2, fun h => ⟨Finset.mem_univ _, h⟩⟩

theorem slots_univ : slots Finset.univ = Finset.univ := by
  ext i; rw [mem_slots]; exact ⟨fun _ => Finset.mem_univ _, fun _ => Finset.mem_univ _⟩

theorem slots_eq_biUnion (T : Finset (Fin 16)) : slots T = T.biUnion fun s => slots {s} := by
  ext i; rw [mem_slots, Finset.mem_biUnion]
  constructor
  · intro h; exact ⟨slotOf i, h, mem_slots.mpr (Finset.mem_singleton_self _)⟩
  · rintro ⟨s, hs, hi⟩; rw [mem_slots, Finset.mem_singleton] at hi; exact hi ▸ hs

theorem slots_disjoint {s t : Fin 16} (h : s ≠ t) : Disjoint (slots {s}) (slots {t}) := by
  rw [Finset.disjoint_left]; intro i hi hj
  rw [mem_slots, Finset.mem_singleton] at hi hj
  exact h (hi.symm.trans hj)

/-- Slot `s`, row `a`, column `b`. -/
abbrev at3 (s : Fin 16) (a : Fin 32) (b : Fin 256) : S16x32x256.Idx := ix3 (n0 := 16) (n1 := 32) (n2 := 256) s a b

theorem eq_at3 (i : S16x32x256.Idx) : i = at3 (slotOf i) (i 1) (i 2) := eq_ix3 (n0 := 16) (n1 := 32) (n2 := 256) i

/-! ## Rectangles of whole slots -/

/-- The rectangle of `n` slots from slot `o`, as a set. -/
theorem rect_set {off : Fin 3 → ℕ} (o n : ℕ) (inb : ∀ a, off a + (![n, 32, 256] : Fin 3 → ℕ) a ≤ S16x32x256.size a)
    (T : Finset (Fin 16)) (ho : off = ![o, 0, 0]) (hT : ∀ s : Fin 16, s ∈ T ↔ o ≤ s.val ∧ s.val < o + n) :
    (Rect.unit (s := S16x32x256) off ![n, 32, 256] inb).set = slots T := by
  subst ho
  ext i
  rw [Rect.mem_set_unit, mem_slots, hT]
  constructor
  · intro h; exact h 0
  · intro h a
    match a with
    | ⟨0, _⟩ => exact h
    | ⟨1, _⟩ => exact ⟨Nat.zero_le _, (i 1).isLt.trans_le (Nat.le_of_eq (Nat.zero_add _).symm)⟩
    | ⟨2, _⟩ => exact ⟨Nat.zero_le _, (i 2).isLt.trans_le (Nat.le_of_eq (Nat.zero_add _).symm)⟩

/-- Where such a rectangle puts its elements. -/
theorem rect_emb {off : Fin 3 → ℕ} (o n : ℕ) (inb : ∀ a, off a + (![n, 32, 256] : Fin 3 → ℕ) a ≤ S16x32x256.size a)
    (ho : off = ![o, 0, 0]) (j : (⟨3, ![n, 32, 256]⟩ : Shape).Idx) (h : o + (j 0).val < 16) :
    (Rect.unit (s := S16x32x256) off ![n, 32, 256] inb).emb j = at3 ⟨o + (j 0).val, h⟩ (j 1) (j 2) := by
  subst ho
  funext a
  match a with
  | ⟨0, _⟩ => exact Fin.ext (by rw [Rect.emb_apply]; show o + 1 * (j 0).val = o + (j 0).val; omega)
  | ⟨1, _⟩ => exact Fin.ext (by rw [Rect.emb_apply]; show 0 + 1 * (j 1).val = (j 1).val; omega)
  | ⟨2, _⟩ => exact Fin.ext (by rw [Rect.emb_apply]; show 0 + 1 * (j 2).val = (j 2).val; omega)

/-! ## One slot as a transfer names it -/

/-- The slot at offset `off` of a scratch buffer, its leading axis of size one dropped. -/
abbrev slotMem (M : Memref sig .tc .vmem S16x32x256 .bf16) (off : Fin 3 → ℕ)
    (h : ∀ a, off a + S1x32x256.size a ≤ S16x32x256.size a) : Memref sig .tc .vmem S32x256 .bf16 :=
  (M.slice (Rect.unit (s := S16x32x256) off S1x32x256.size h) (fun _ => rfl)).squeeze S32x256 squeezes_S1x32x256_S32x256

/-- The three scratch buffers: this device's results, the collected results, the exchanged sums. -/
abbrev PT : Memref sig .tc .vmem S16x32x256 .bf16 := Memref.whole cc0_scratch0
abbrev RS : Memref sig .tc .vmem S16x32x256 .bf16 := Memref.whole cc0_scratch1
abbrev XV : Memref sig .tc .vmem S16x32x256 .bf16 := Memref.whole cc0_scratch2

theorem single_mem (s : Fin 16) (t : Fin 16) : t ∈ ({s} : Finset (Fin 16)) ↔ s.val ≤ t.val ∧ t.val < s.val + 1 := by
  rw [Finset.mem_singleton, Fin.ext_iff]; omega

section Slot
variable {off : Fin 3 → ℕ} (h : ∀ a, off a + S1x32x256.size a ≤ S16x32x256.size a) (s : Fin 16) (ho : off = ![s.val, 0, 0])
include ho

theorem slotPT_set : (slotMem PT off h).view.set = slots {s} := by
  show (((View.whole cc0_scratch0).slice (Rect.unit (s := S16x32x256) off S1x32x256.size h)).reshape S32x256 _).set = _
  rw [View.set_reshape, View.set_slice_whole]; exact rect_set s.val 1 h {s} ho (single_mem s)
theorem slotRS_set : (slotMem RS off h).view.set = slots {s} := by
  show (((View.whole cc0_scratch1).slice (Rect.unit (s := S16x32x256) off S1x32x256.size h)).reshape S32x256 _).set = _
  rw [View.set_reshape, View.set_slice_whole]; exact rect_set s.val 1 h {s} ho (single_mem s)
theorem slotXV_set : (slotMem XV off h).view.set = slots {s} := by
  show (((View.whole cc0_scratch2).slice (Rect.unit (s := S16x32x256) off S1x32x256.size h)).reshape S32x256 _).set = _
  rw [View.set_reshape, View.set_slice_whole]; exact rect_set s.val 1 h {s} ho (single_mem s)

/-- Element `j` of the slot, in the buffer. -/
theorem slot_emb (j : S32x256.Idx) :
    (Rect.unit (s := S16x32x256) off S1x32x256.size h).emb (Shape.reshapeEquiv squeezes_S1x32x256_S32x256.numel_eq j) = at3 s (j 0) (j 1) := by
  have e : Shape.reshapeEquiv squeezes_S1x32x256_S32x256.numel_eq j = (Fin.cons ⟨0, Nat.one_pos⟩ j : (⟨3, ![1, 32, 256]⟩ : Shape).Idx) :=
    Shape.reshapeEquiv_cons_one (n := 2) (d := ![32, 256]) squeezes_S1x32x256_S32x256.numel_eq j
  rw [e]
  exact rect_emb s.val 1 h ho (Fin.cons ⟨0, Nat.one_pos⟩ j : (⟨3, ![1, 32, 256]⟩ : Shape).Idx) (by show s.val + 0 < 16; exact s.isLt)

end Slot

variable {F : FTy → Type} [FloatOps F]

section Landing
variable {offs offd : Fin 3 → ℕ} (hs : ∀ a, offs a + S1x32x256.size a ≤ S16x32x256.size a)
  (hd : ∀ a, offd a + S1x32x256.size a ≤ S16x32x256.size a) (s d : Fin 16) (hos : offs = ![s.val, 0, 0]) (hod : offd = ![d.val, 0, 0])
include hos hod

/-- A transfer of slot `s` of the results into slot `d` of the collected results: what slot `d` then holds. -/
theorem landed_RS (fd fs : Big F) (i : S16x32x256.Idx) (hi : i ∈ slots {d}) :
    (slotMem RS offd hd).view.write (Elt F) fd ((slotMem PT offs hs).view.read (Elt F) fs) Finset.univ i = fs (at3 s (i 1) (i 2)) := by
  rw [mem_slots, Finset.mem_singleton] at hi
  have e : i = (slotMem RS offd hd).view.emb (ix2 (n0 := 32) (n1 := 256) (i 1) (i 2)) :=
    (eq_at3 i).trans (hi ▸ (slot_emb hd d hod (ix2 (n0 := 32) (n1 := 256) (i 1) (i 2))).symm)
  refine (congrArg _ e).trans ((View.write_emb_of_mem (v := (slotMem RS offd hd).view) (Val := Elt F) fd _ (Finset.mem_univ _)).trans ?_)
  exact congrArg fs (slot_emb hs s hos (ix2 (n0 := 32) (n1 := 256) (i 1) (i 2)))

/-- A transfer of slot `s` of the sums into slot `d` of another device's: what slot `d` there then holds. -/
theorem landed_XV (fd fs : Big F) (i : S16x32x256.Idx) (hi : i ∈ slots {d}) :
    (slotMem XV offd hd).view.write (Elt F) fd ((slotMem XV offs hs).view.read (Elt F) fs) Finset.univ i = fs (at3 s (i 1) (i 2)) := by
  rw [mem_slots, Finset.mem_singleton] at hi
  have e : i = (slotMem XV offd hd).view.emb (ix2 (n0 := 32) (n1 := 256) (i 1) (i 2)) :=
    (eq_at3 i).trans (hi ▸ (slot_emb hd d hod (ix2 (n0 := 32) (n1 := 256) (i 1) (i 2))).symm)
  refine (congrArg _ e).trans ((View.write_emb_of_mem (v := (slotMem XV offd hd).view) (Val := Elt F) fd _ (Finset.mem_univ _)).trans ?_)
  exact congrArg fs (slot_emb hs s hos (ix2 (n0 := 32) (n1 := 256) (i 1) (i 2)))

end Landing

/-! ## Loads and stores of slots -/

section Access
variable {off : Fin 3 → ℕ} (o n : ℕ) (inb : ∀ a, off a + (![n, 32, 256] : Fin 3 → ℕ) a ≤ S16x32x256.size a) (ho : off = ![o, 0, 0])
include ho

/-- What a load of slots reads, from each buffer. -/
theorem load_PT (f : Big F) (j : (⟨3, ![n, 32, 256]⟩ : Shape).Idx) (h : o + (j 0).val < 16) :
    PT.view.readAt (Elt F) (Rect.unit (s := S16x32x256) off ![n, 32, 256] inb).toLoadRect f j = f (at3 ⟨o + (j 0).val, h⟩ (j 1) (j 2)) :=
  congrArg f (rect_emb o n inb ho j h)
theorem load_RS (f : Big F) (j : (⟨3, ![n, 32, 256]⟩ : Shape).Idx) (h : o + (j 0).val < 16) :
    RS.view.readAt (Elt F) (Rect.unit (s := S16x32x256) off ![n, 32, 256] inb).toLoadRect f j = f (at3 ⟨o + (j 0).val, h⟩ (j 1) (j 2)) :=
  congrArg f (rect_emb o n inb ho j h)
theorem load_XV (f : Big F) (j : (⟨3, ![n, 32, 256]⟩ : Shape).Idx) (h : o + (j 0).val < 16) :
    XV.view.readAt (Elt F) (Rect.unit (s := S16x32x256) off ![n, 32, 256] inb).toLoadRect f j = f (at3 ⟨o + (j 0).val, h⟩ (j 1) (j 2)) :=
  congrArg f (rect_emb o n inb ho j h)

/-- What a store of slots leaves, in each buffer, at an element it wrote. -/
theorem store_PT (f : Big F) (w : (⟨3, ![n, 32, 256]⟩ : Shape).Idx → Elt F .bf16) (i : S16x32x256.Idx) (j : (⟨3, ![n, 32, 256]⟩ : Shape).Idx)
    (h : o + (j 0).val < 16) (hi : i = at3 ⟨o + (j 0).val, h⟩ (j 1) (j 2)) :
    (PT.access (Rect.unit (s := S16x32x256) off ![n, 32, 256] inb)).write (Elt F) f w Finset.univ i = w j :=
  (congrArg _ (hi.trans (rect_emb o n inb ho j h).symm)).trans
    (View.write_emb_of_mem (v := PT.access (Rect.unit (s := S16x32x256) off ![n, 32, 256] inb)) (Val := Elt F) f w (Finset.mem_univ j))
theorem store_RS (f : Big F) (w : (⟨3, ![n, 32, 256]⟩ : Shape).Idx → Elt F .bf16) (i : S16x32x256.Idx) (j : (⟨3, ![n, 32, 256]⟩ : Shape).Idx)
    (h : o + (j 0).val < 16) (hi : i = at3 ⟨o + (j 0).val, h⟩ (j 1) (j 2)) :
    (RS.access (Rect.unit (s := S16x32x256) off ![n, 32, 256] inb)).write (Elt F) f w Finset.univ i = w j :=
  (congrArg _ (hi.trans (rect_emb o n inb ho j h).symm)).trans
    (View.write_emb_of_mem (v := RS.access (Rect.unit (s := S16x32x256) off ![n, 32, 256] inb)) (Val := Elt F) f w (Finset.mem_univ j))
theorem store_XV (f : Big F) (w : (⟨3, ![n, 32, 256]⟩ : Shape).Idx → Elt F .bf16) (i : S16x32x256.Idx) (j : (⟨3, ![n, 32, 256]⟩ : Shape).Idx)
    (h : o + (j 0).val < 16) (hi : i = at3 ⟨o + (j 0).val, h⟩ (j 1) (j 2)) :
    (XV.access (Rect.unit (s := S16x32x256) off ![n, 32, 256] inb)).write (Elt F) f w Finset.univ i = w j :=
  (congrArg _ (hi.trans (rect_emb o n inb ho j h).symm)).trans
    (View.write_emb_of_mem (v := XV.access (Rect.unit (s := S16x32x256) off ![n, 32, 256] inb)) (Val := Elt F) f w (Finset.mem_univ j))

end Access

/-- The load of tokens `128 g …` of `x`. -/
theorem load_x (g : Fin 4) (f : S512x256.Idx → Elt F .f32) {off : Fin 2 → ℕ} (inb : ∀ a, off a + S128x256.size a ≤ S512x256.size a)
    (ho : off = ![128 * g.val, 0]) :
    (Memref.whole cc0_stg0_0).view.readAt (Elt F) (Rect.unit (s := S512x256) off S128x256.size inb).toLoadRect f = xrow f g := by
  subst ho
  funext j
  refine congrArg f (funext fun a => ?_)
  match a with
  | ⟨0, _⟩ => exact Fin.ext (by show 128 * g.val + 1 * (j 0).val = 128 * g.val + (j 0).val; omega)
  | ⟨1, _⟩ => exact Fin.ext (by show 0 + 1 * (j 1).val = (j 1).val; omega)

end Cert.MlpProof
-- ==== Proof.Protocol.lean ====
/-
# The protocol of the sixteen devices

Who waits for whom, and what a wait hands over. Device `c` talks to each other device `s` through four semaphores of its
own and four of `s`'s, once per layer (a round `l` = 0, 1, 2):

* `0`, sent-results: `c`'s copy of its results' slot `s` to `s` has left; the wait gives `c` that slot back;
* `1`, received-results: slot `s` of `c`'s collected results has landed. With it `s` hands over its own sums' slot `c`,
  into which `c` will copy its sum of the layer;
* `2`, sent-sums: `c`'s copy of its sum to `s` has left; the wait gives `c` a share of that sum back;
* `3`, received-sums: slot `s` of `c`'s sums has landed. With it `s` hands over (except after the last layer) its
  collected results' slot `c`, into which `c` will copy its results of the next layer.

Before all that a handshake on the barrier semaphore: device `s` signals `c` once, handing over its collected results'
slot `c`. The levels order the waits: a device waiting for something of one layer owes only later things.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's duties are named by devices: a barrier's by who pays it, a transfer's by `0`. -/
abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- The runtime's barrier semaphore. -/
abbrev barS : Sem sig := (SemArray.scalar (sig.barrier 0 rfl) : Sems sig S_).sem

/-- The four arrays of sixteen transfer semaphores. -/
def dsem (k : Fin 4) (s : Fin 16) : DmaSem sig := ⟨8 + 16 * k.val + s.val, by have := k.isLt; have := s.isLt; show _ < 72; omega⟩

abbrev barCell (c : Dev nD) : GSem nD τ sig := ((c : Thread nD τ), .reg barS)
abbrev cell (k : Fin 4) (s : Fin 16) (c : Dev nD) : GSem nD τ sig := ((c : Thread nD τ), .dma (dsem k s))

theorem dsem_kind (k : Fin 4) (s : Fin 16) : ((dsem k s).val - 8) / 16 = k.val := by
  have := k.isLt; have := s.isLt; show (8 + 16 * k.val + s.val - 8) / 16 = _; omega
theorem dsem_slot (k : Fin 4) (s : Fin 16) : ((dsem k s).val - 8) % 16 = s.val := by
  have := k.isLt; have := s.isLt; show (8 + 16 * k.val + s.val - 8) % 16 = _; omega
theorem dsem_low (k : Fin 4) (s : Fin 16) : 8 ≤ (dsem k s).val := by show 8 ≤ 8 + 16 * k.val + s.val; omega

theorem dsem_inj {k k' : Fin 4} {s s' : Fin 16} (h : dsem k s = dsem k' s') : k = k' ∧ s = s' := by
  have h' : 8 + 16 * k.val + s.val = 8 + 16 * k'.val + s'.val := congrArg Fin.val h
  have := s.isLt; have := s'.isLt
  exact ⟨Fin.ext (by omega), Fin.ext (by omega)⟩

theorem cell_inj {k k' : Fin 4} {s s' : Fin 16} {c c' : Dev nD} (h : cell k s c = cell k' s' c') : k = k' ∧ s = s' ∧ c = c' := by
  have h1 : c = c' := congrArg (fun g : GSem nD τ sig => g.1.1) h
  have h2 : (SemLoc.dma (dsem k s) : SemLoc sig) = .dma (dsem k' s') := congrArg Prod.snd h
  obtain ⟨h3, h4⟩ := dsem_inj (SemLoc.dma.inj h2)
  exact ⟨h3, h4, h1⟩

/-- What one slot's transfer adds to a semaphore. -/
abbrev N : ℕ := (slotMem RS ![0, 0, 0] (by decide)).view.dmaCredit
theorem N_pos : 0 < N := View.dmaCredit_pos _ (by decide)

/-! ## Slots held -/

def ptPts (c : Dev nD) (T : Finset (Fin 16)) (q : PosShare TreeShare) (f : Big F) : sProp 𝕄 :=
  ((c : Thread nD τ).loc cc0_scratch0) ↦[slots T]{q} f
def rsPts (c : Dev nD) (T : Finset (Fin 16)) (q : PosShare TreeShare) (f : Big F) : sProp 𝕄 :=
  ((c : Thread nD τ).loc cc0_scratch1) ↦[slots T]{q} f
def xvPts (c : Dev nD) (T : Finset (Fin 16)) (q : PosShare TreeShare) (f : Big F) : sProp 𝕄 :=
  ((c : Thread nD τ).loc cc0_scratch2) ↦[slots T]{q} f

instance ptPts_storable (c : Dev nD) (T q f) : BI.Storable (upEmb : UEmb _ 𝕄) (ptPts (F := F) c T q f) := by unfold ptPts; infer_instance
instance rsPts_storable (c : Dev nD) (T q f) : BI.Storable (upEmb : UEmb _ 𝕄) (rsPts (F := F) c T q f) := by unfold rsPts; infer_instance
instance xvPts_storable (c : Dev nD) (T q f) : BI.Storable (upEmb : UEmb _ 𝕄) (xvPts (F := F) c T q f) := by unfold xvPts; infer_instance

/-- The share of its own sum a device lends to the copy to `s`; its left half it keeps for its own loads. -/
def piece (c s : Fin 16) : PosShare TreeShare := Transfers.dealOf fullShare.right (Finset.univ.erase c) s

/-! ## What each landing hands over -/

variable (I : Inp F)

/-- Device `s` to `c`'s barrier: its collected results' slot `c`. -/
def barPay (c s : Dev nD) : sProp 𝕄 := iprop(∃ f, rsPts s {c} fullShare f)
def sentResPay (c : Dev nD) (s : Fin 16) (l : ℕ) : sProp 𝕄 := ptPts c {s} fullShare (PB I l c)
def recvResPay (c : Dev nD) (s : Fin 16) (l : ℕ) : sProp 𝕄 :=
  iprop(rsPts c {s} fullShare (RB I l c) ∗ (∃ f, xvPts s {c} fullShare f) ∗ reached ER (cell 3 c s) l)
def sentSumPay (c : Dev nD) (s : Fin 16) (l : ℕ) : sProp 𝕄 := xvPts c {c} (piece c s) (XB I (l + 1))
/-- The extra a sum's landing brings, except after the last layer. -/
def nextRes (c : Dev nD) (s : Fin 16) (l : ℕ) : sProp 𝕄 :=
  if l < 3 then iprop((∃ f, rsPts s {c} fullShare f) ∗ reached ER (cell 1 c s) l) else iprop(emp)
def recvSumPay (c : Dev nD) (s : Fin 16) (l : ℕ) : sProp 𝕄 := iprop(xvPts c {s} fullShare (XB I (l + 1)) ∗ nextRes c s (l + 1))

def xferPay (k : ℕ) (s : Fin 16) (c : Dev nD) (l : ℕ) : sProp 𝕄 :=
  if k = 0 then sentResPay I c s l else if k = 1 then recvResPay I c s l else if k = 2 then sentSumPay I c s l else recvSumPay I c s l

/-- The slot a transfer semaphore is for. -/
def slotIx (q : DmaSem sig) : Fin 16 := ⟨(q.val - 8) % 16, Nat.mod_lt _ (by decide)⟩
theorem slotIx_dsem (k : Fin 4) (s : Fin 16) : slotIx (dsem k s) = s := Fin.ext (dsem_slot k s)

/-- The schedule: a barrier cell has one round, with a duty of every other device; a transfer cell between different
    devices three rounds, of one transfer each. -/
def sched : Rounds.Schedule (GSem nD τ sig) (Fin 16) 𝕄 where
  duties g r := match g.2 with
    | .reg b => if g.1.2 = .tc ∧ b = barS ∧ r = 0 then Finset.univ.erase g.1.1 else ∅
    | .dma q => if g.1.2 = .tc ∧ 8 ≤ q.val ∧ r < 3 ∧ slotIx q ≠ g.1.1 then {0} else ∅
  unitless _ := False
  amount g _ _ := match g.2 with
    | .reg _ => 1
    | .dma _ => N
  payload g r d := match g.2 with
    | .reg _ => barPay g.1.1 d
    | .dma q => xferPay I ((q.val - 8) / 16) (slotIx q) g.1.1 r
  amount_pos g _ _ _ := by
    rcases g with ⟨t, b | q⟩
    · exact Nat.one_pos
    · exact N_pos

instance nextRes_storable (c : Dev nD) (s : Fin 16) (l : ℕ) : BI.Storable (upEmb : UEmb _ 𝕄) (nextRes (F := F) c s l) := by
  unfold nextRes; split <;> infer_instance
instance xferPay_storable (k : ℕ) (s : Fin 16) (c : Dev nD) (l : ℕ) : BI.Storable (upEmb : UEmb _ 𝕄) (xferPay I k s c l) := by
  unfold xferPay sentResPay recvResPay sentSumPay recvSumPay
  (repeat' split) <;> infer_instance
instance barPay_storable (c s : Dev nD) : BI.Storable (upEmb : UEmb _ 𝕄) (barPay (F := F) c s) := by
  unfold barPay; infer_instance

instance sched_payload_storable (g : GSem nD τ sig) (r : ℕ) (d : Fin 16) : BI.Storable (upEmb : UEmb _ 𝕄) ((sched I).payload g r d) := by
  rcases g with ⟨t, b | q⟩
  · exact barPay_storable t.1 d
  · exact xferPay_storable I _ _ t.1 r

section Sched
variable (c : Dev nD) (s : Fin 16) (k : Fin 4) (l : ℕ)

theorem duties_bar : (sched I).duties (barCell c) 0 = Finset.univ.erase c := by
  dsimp only [sched]; rw [if_pos ⟨rfl, rfl, rfl⟩]
theorem duties_bar_later (r : ℕ) (hr : 1 ≤ r) : (sched I).duties (barCell c) r = ∅ := if_neg fun h => by have := h.2.2; omega
theorem duties_cell (hl : l < 3) (hs : s ≠ c) : (sched I).duties (cell k s c) l = {0} :=
  if_pos ⟨rfl, dsem_low k s, hl, by rw [slotIx_dsem]; exact hs⟩
theorem duties_cell_later (r : ℕ) (hr : 3 ≤ r) : (sched I).duties (cell k s c) r = ∅ := if_neg fun h => by have := h.2.2.1; omega
theorem duties_cell_own (r : ℕ) : (sched I).duties (cell k c c) r = ∅ := if_neg fun h => h.2.2.2 (slotIx_dsem k c)

theorem amount_bar (d : Fin 16) : (sched I).amount (barCell c) 0 d = 1 := rfl
theorem amount_cell (d : Fin 16) : (sched I).amount (cell k s c) l d = N := rfl

theorem expect_bar : (sched I).expect (barCell c) 0 = 15 := by
  unfold Schedule.expect Schedule.amountOf
  rw [duties_bar, Finset.sum_congr rfl fun d _ => amount_bar I c d, Finset.sum_const, Finset.card_erase_of_mem (Finset.mem_univ _)]
  rfl
theorem expect_cell (hl : l < 3) (hs : s ≠ c) : (sched I).expect (cell k s c) l = N := by
  unfold Schedule.expect Schedule.amountOf; rw [duties_cell I c s k l hl hs, Finset.sum_singleton, amount_cell]

theorem payload_bar (d : Fin 16) : (sched I).payload (barCell c) 0 d = barPay c d := rfl
theorem payload_cell (d : Fin 16) : (sched I).payload (cell k s c) l d = xferPay I k.val s c l := by
  show xferPay I (((dsem k s).val - 8) / 16) (slotIx (dsem k s)) c l = _
  rw [slotIx_dsem, dsem_kind]

/-- What the wait on the barrier brings: every other device's slot `c`. -/
theorem rest_bar : bigSep ((sched I).duties (barCell c) 0 \ ∅) (fun d => (sched I).payload (barCell c) 0 d)
    = bigSep (Finset.univ.erase c) fun s => barPay c s := by
  rw [Finset.sdiff_empty, duties_bar]; rfl
theorem rest_cell (hl : l < 3) (hs : s ≠ c) :
    bigSep ((sched I).duties (cell k s c) l \ ∅) (fun d => (sched I).payload (cell k s c) l d) = xferPay I k.val s c l := by
  rw [Finset.sdiff_empty, duties_cell I c s k l hl hs, bigSep_singleton, payload_cell]

end Sched

/-! ## Levels -/

def L (g : GSem nD τ sig) : Finset ℕ := if g.1.2 = .tc then Finset.range 3 else ∅
/-- Staging and sent cells at 0, barriers at 1, then layer by layer the received results and the received sums. -/
def lv (g : GSem nD τ sig) (l : ℕ) : ℕ := match g.2 with
  | .reg _ => 1
  | .dma q => if (q.val - 8) / 16 = 1 then 2 + 2 * l else if (q.val - 8) / 16 = 3 then 3 + 2 * l else 0

theorem L_of_ne (g : GSem nD τ sig) (h : g.1.2 ≠ .tc) : L g = ∅ := if_neg h
theorem mem_L (c : Dev nD) (sm : SemLoc sig) (l : ℕ) (hl : l < 3) : l ∈ L ((c : Thread nD τ), sm) := by
  unfold L; rw [if_pos rfl]; exact Finset.mem_range.mpr hl

theorem lv_cell (k : Fin 4) (s : Fin 16) (c : Dev nD) (l : ℕ) :
    lv (cell k s c) l = if k.val = 1 then 2 + 2 * l else if k.val = 3 then 3 + 2 * l else 0 := by
  show (if ((dsem k s).val - 8) / 16 = 1 then _ else if ((dsem k s).val - 8) / 16 = 3 then _ else _) = _
  rw [dsem_kind]

end Cert.MlpProof
-- ==== Proof.State.lean ====
/-
# What a device holds

A device's holdings during its run, by the stage each slot `s` is at. In layer `l` a slot goes through the stages

* 0: waiting for the layer's input from `s`; 1: that has arrived; 2: the results for `s` are computed; 3: they are sent to
  `s`; 4: `s`'s results for this device have arrived; 5: the previous sum's copy to `s` has left; 6: the new sum is
  stored; 7: it is sent to `s`; 8: the results' copy to `s` has left, which is stage 0 of the next layer;
* 9: the end, reached from stage 1 of layer 3.

The device's own slot goes along, without transfers.
-/
module

public import proofs.«01_k».proof.Proof.Protocol
public import Mathlib.Algebra.BigOperators.Intervals
public import Mathlib.Tactic.Abel

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is owed -/

def rsO (c s : Dev nD) (l : ℕ) : CellTallies nD τ sig ℕ := tallyAt (cell 1 c s) l N
def agO (c s : Dev nD) (l : ℕ) : CellTallies nD τ sig ℕ := tallyAt (cell 3 c s) l N
/-- The transfers to `s` of the layers from `l` on. -/
def tail (c s : Dev nD) (l : ℕ) : CellTallies nD τ sig ℕ := ∑ l' ∈ Finset.Ico l 3, (rsO c s l' + agO c s l')
/-- What `c` owes `s` at stage `k` of layer `l`. -/
def od (c s : Dev nD) (l k : ℕ) : CellTallies nD τ sig ℕ :=
  if k ≤ 2 then tail c s l else if k ≤ 6 then agO c s l + tail c s (l + 1) else tail c s (l + 1)
def owed (c : Dev nD) (l : ℕ) (σ : Fin 16 → ℕ) : CellTallies nD τ sig ℕ := ∑ s ∈ Finset.univ.erase c, od c s l (σ s)

theorem tail_step (c s : Dev nD) (l : ℕ) (hl : l < 3) : tail c s l = agO c s l + tail c s (l + 1) + rsO c s l := by
  unfold tail; rw [Finset.sum_eq_sum_Ico_succ_bot hl]; abel

theorem tail_end (c s : Dev nD) (l : ℕ) (hl : 3 ≤ l) : tail c s l = 0 := by
  unfold tail; rw [Finset.Ico_eq_empty_of_le hl, Finset.sum_empty]

/-- A tally in which only cells of the kernel's own rounds occur, at levels `b` and up. -/
def Above (b : ℕ) (O : CellTallies nD τ sig ℕ) : Prop := ∀ g i, 0 < O g i → g.1.2 = .tc ∧ i < 3 ∧ b ≤ lv g i

theorem Above.zero (b : ℕ) : Above b 0 := fun g i h => absurd h (Nat.lt_irrefl 0)
theorem Above.add {b : ℕ} {O P : CellTallies nD τ sig ℕ} (h : Above b O) (h' : Above b P) : Above b (O + P) := fun g i hp => by
  rw [Pi.add_apply, Finsupp.add_apply] at hp
  rcases Nat.eq_zero_or_pos (O g i) with h0 | h0
  · exact h' g i (by omega)
  · exact h g i h0
theorem Above.sum {ι : Type} {b : ℕ} (T : Finset ι) (f : ι → CellTallies nD τ sig ℕ) (h : ∀ s ∈ T, Above b (f s)) : Above b (∑ s ∈ T, f s) :=
  Finset.sum_induction f (Above b) (fun _ _ => Above.add) (Above.zero b) h
theorem Above.mono {b b' : ℕ} {O : CellTallies nD τ sig ℕ} (h : Above b O) (hb : b' ≤ b) : Above b' O :=
  fun g i hp => ⟨(h g i hp).1, (h g i hp).2.1, hb.trans (h g i hp).2.2⟩
theorem Above.tally {b : ℕ} {g : GSem nD τ sig} {i n : ℕ} (hg : g.1.2 = .tc) (hi : i < 3) (hb : b ≤ lv g i) : Above b (tallyAt g i n) :=
  fun g' i' hp => by
    rw [tallyAt_apply] at hp
    by_cases h : g' = g ∧ i' = i
    · rw [h.1, h.2]; exact ⟨hg, hi, hb⟩
    · rw [if_neg h] at hp; exact absurd hp (Nat.lt_irrefl 0)

theorem above_rsO (c s : Dev nD) {l b : ℕ} (hl : l < 3) (hb : b ≤ 2 + 2 * l) : Above b (rsO c s l) :=
  Above.tally rfl hl (by rw [lv_cell]; exact hb)
theorem above_agO (c s : Dev nD) {l b : ℕ} (hl : l < 3) (hb : b ≤ 3 + 2 * l) : Above b (agO c s l) :=
  Above.tally rfl hl (by rw [lv_cell]; exact hb)
theorem above_tail (c s : Dev nD) {l b : ℕ} (hb : b ≤ 2 + 2 * l) : Above b (tail c s l) :=
  Above.sum _ _ fun l' h => by
    have h := Finset.mem_Ico.mp h
    exact (above_rsO c s h.2 (by omega)).add (above_agO c s h.2 (by omega))
theorem above_od (c s : Dev nD) {l k b : ℕ} (hl : l < 3 ∨ k ≤ 2 ∨ 7 ≤ k) (hb : b ≤ 2 + 2 * l + (if k ≤ 2 then 0 else 1)) : Above b (od c s l k) := by
  unfold od
  split at hb
  · rw [if_pos (by assumption)]; exact above_tail c s (by omega)
  · rw [if_neg (by assumption)]
    split
    · exact (above_agO c s (by omega) (by omega)).add (above_tail c s (by omega))
    · exact above_tail c s (by omega)
theorem above_owed (c : Dev nD) {l b : ℕ} (hl : l < 3) (σ : Fin 16 → ℕ) (hb : ∀ s, s ≠ c → b ≤ 2 + 2 * l + (if σ s ≤ 2 then 0 else 1)) :
    Above b (owed c l σ) :=
  Above.sum _ _ fun s hs => above_od c s (Or.inl hl) (hb s (Finset.ne_of_mem_erase hs))
theorem owed_end (c : Dev nD) (σ : Fin 16 → ℕ) (hσ : ∀ s, s ≠ c → σ s ≤ 2 ∨ 7 ≤ σ s) : owed c 3 σ = 0 := by
  unfold owed
  refine Finset.sum_eq_zero fun s hs => ?_
  unfold od
  rcases hσ s (Finset.ne_of_mem_erase hs) with h | h
  · rw [if_pos h]; exact tail_end c s 3 (le_refl _)
  · rw [if_neg (by omega), if_neg (by omega)]; exact tail_end c s 4 (by omega)

/-- A device may wait for what lies below everything it owes. -/
theorem mayWait (c : Dev nD) (sm : SemLoc sig) {i b : ℕ} (hi : i < 3) (hlv : lv ((c : Thread nD τ), sm) i < b) {O : CellTallies nD τ sig ℕ}
    (hO : Above b O) : (levAts L lv : sProp 𝕄) ⊢ MayWait (c : Thread nD τ) sm i O :=
  MayOwe.of_cut (L := L) (lev := lv) (lv ((c : Thread nD τ), sm) i) (fun p hp => by rw [Finset.mem_singleton.mp hp]; exact mem_L c sm i hi)
    (fun g j hg => by
      obtain ⟨h1, h2, h3⟩ := hO g j hg
      unfold L; rw [if_pos h1]; exact Finset.mem_range.mpr h2)
    (fun p hp => by rw [Finset.mem_singleton.mp hp])
    (fun g j hg => lt_of_lt_of_le hlv (hO g j hg).2.2)

/-! ## A slot's holdings -/

variable (I : Inp F) (f0 fx : Big F) (c s : Fin 16) (l : ℕ)

/-- At the start of round `r` of a cell of one's own. -/
def posn (g : GSem nD τ sig) (r : ℕ) : sProp 𝕄 := iprop(atPos ER g r ∅ 0 ∗ reached ER g r)

/-- For one layer's exchanges with `s`: the right to make them, and that `s` will make them. -/
def toks : sProp 𝕄 := iprop(dutyTok ER (cell 0 s c) l 0 ∗ dutyTok ER (cell 1 c s) l 0 ∗ dutyTok ER (cell 2 s c) l 0 ∗ dutyTok ER (cell 3 c s) l 0
  ∗ cred (tallyAt (cell 1 s c) l N) ∗ cred (tallyAt (cell 3 s c) l N))
def rest : sProp 𝕄 := bigSep (Finset.Ico l 3) fun l' => toks c s l'

/-- The previous sum's copy to `s`, on its way. -/
def agOut : ℕ → sProp 𝕄
  | 0 => posn (cell 2 s c) 0
  | l + 1 => iprop(posn (cell 2 s c) l ∗ cred (tallyAt (cell 2 s c) 0 N))
def kept : sProp 𝕄 := if l < 3 then iprop(emp) else rsPts c {s} fullShare (RB I 2 c)
def lent : sProp 𝕄 := if l = 0 then iprop(emp) else xvPts c {c} (piece c s) (XB I l)

/-- The results buffer and the sums buffer at the start of a layer. -/
def ptIn : ℕ → Fin 16 → Big F
  | 0, _ => f0
  | l + 1, c => PB I l c
def xvIn : ℕ → Big F
  | 0 => fx
  | l + 1 => XB I (l + 1)

/-- After layer `l`. -/
def peerA : sProp 𝕄 := iprop(posn (cell 0 s c) (l + 1) ∗ ptPts c {s} fullShare (PB I l c) ∗ posn (cell 1 s c) (l + 1) ∗ agOut c s (l + 1)
  ∗ posn (cell 3 s c) l ∗ cred (tallyAt (cell 3 s c) l N) ∗ rest c s (l + 1) ∗ kept I c s (l + 1))

/-- At stages 1 and 2, besides the results buffer's slot and the input. -/
def peer12 : sProp 𝕄 := iprop(posn (cell 0 s c) l ∗ posn (cell 1 s c) l ∗ agOut c s l ∗ posn (cell 3 s c) l ∗ nextRes c s l ∗ kept I c s l ∗ rest c s l)

def peer1 : sProp 𝕄 := iprop(ptPts c {s} fullShare (ptIn I f0 l c) ∗ xvPts c {s} fullShare (xvIn I fx l) ∗ peer12 I c s l)
def peer2 : sProp 𝕄 := iprop(ptPts c {s} fullShare (PB I l c) ∗ xvPts c {s} fullShare (xvIn I fx l) ∗ peer12 I c s l)
def peer3 : sProp 𝕄 := iprop(posn (cell 0 s c) l ∗ cred (tallyAt (cell 0 s c) 0 N) ∗ posn (cell 1 s c) l ∗ agOut c s l ∗ posn (cell 3 s c) l
  ∗ dutyTok ER (cell 2 s c) l 0 ∗ dutyTok ER (cell 3 c s) l 0 ∗ cred (tallyAt (cell 1 s c) l N) ∗ cred (tallyAt (cell 3 s c) l N) ∗ rest c s (l + 1))
def peer4 : sProp 𝕄 := iprop(posn (cell 0 s c) l ∗ cred (tallyAt (cell 0 s c) 0 N) ∗ posn (cell 1 s c) (l + 1) ∗ agOut c s l ∗ posn (cell 3 s c) l
  ∗ dutyTok ER (cell 2 s c) l 0 ∗ dutyTok ER (cell 3 c s) l 0 ∗ cred (tallyAt (cell 3 s c) l N) ∗ rest c s (l + 1)
  ∗ rsPts c {s} fullShare (RB I l c) ∗ (∃ f, xvPts s {c} fullShare f) ∗ reached ER (cell 3 c s) l)
def peer5 : sProp 𝕄 := iprop(posn (cell 0 s c) l ∗ cred (tallyAt (cell 0 s c) 0 N) ∗ posn (cell 1 s c) (l + 1) ∗ (posn (cell 2 s c) l ∗ lent I c s l) ∗ posn (cell 3 s c) l
  ∗ dutyTok ER (cell 2 s c) l 0 ∗ dutyTok ER (cell 3 c s) l 0 ∗ cred (tallyAt (cell 3 s c) l N) ∗ rest c s (l + 1)
  ∗ rsPts c {s} fullShare (RB I l c) ∗ (∃ f, xvPts s {c} fullShare f) ∗ reached ER (cell 3 c s) l)
def peer6 : sProp 𝕄 := iprop(posn (cell 0 s c) l ∗ cred (tallyAt (cell 0 s c) 0 N) ∗ posn (cell 1 s c) (l + 1) ∗ (posn (cell 2 s c) l ∗ lent I c s (l + 1)) ∗ posn (cell 3 s c) l
  ∗ dutyTok ER (cell 2 s c) l 0 ∗ dutyTok ER (cell 3 c s) l 0 ∗ cred (tallyAt (cell 3 s c) l N) ∗ rest c s (l + 1)
  ∗ rsPts c {s} fullShare (RB I l c) ∗ (∃ f, xvPts s {c} fullShare f) ∗ reached ER (cell 3 c s) l)
def peer7 : sProp 𝕄 := iprop(posn (cell 0 s c) l ∗ cred (tallyAt (cell 0 s c) 0 N) ∗ posn (cell 1 s c) (l + 1) ∗ agOut c s (l + 1)
  ∗ posn (cell 3 s c) l ∗ cred (tallyAt (cell 3 s c) l N) ∗ rest c s (l + 1) ∗ kept I c s (l + 1))
def peer9 : sProp 𝕄 := iprop(ptPts c {s} fullShare (ptIn I f0 l c) ∗ xvPts c {s} fullShare (xvIn I fx l) ∗ posn (cell 0 s c) l ∗ posn (cell 1 s c) l
  ∗ (posn (cell 2 s c) l ∗ lent I c s l) ∗ posn (cell 3 s c) l ∗ nextRes c s l ∗ kept I c s l ∗ rest c s l)
/-- Another device's slot at each stage. -/
def peer : ℕ → sProp 𝕄
  | 0 => match l with
    | 0 => iprop(emp)
    | l + 1 => peerA I c s l
  | 1 => peer1 I f0 fx c s l
  | 2 => peer2 I fx c s l
  | 3 => peer3 c s l
  | 4 => peer4 I c s l
  | 5 => peer5 I c s l
  | 6 => peer6 I c s l
  | 7 => peer7 I c s l
  | 8 => peerA I c s l
  | _ => peer9 I f0 fx c s l

/-- The share of its own sum a device keeps. -/
def ownShare : PosShare TreeShare := if l = 0 then fullShare else fullShare.left

def own : ℕ → sProp 𝕄
  | 0 | 1 => iprop(ptPts c {c} fullShare (ptIn I f0 l c) ∗ xvPts c {c} (ownShare l) (xvIn I fx l) ∗ ∃ f, rsPts c {c} fullShare f)
  | 2 | 3 => iprop(ptPts c {c} fullShare (PB I l c) ∗ xvPts c {c} (ownShare l) (xvIn I fx l) ∗ ∃ f, rsPts c {c} fullShare f)
  | 4 | 5 => iprop(ptPts c {c} fullShare (PB I l c) ∗ xvPts c {c} (ownShare l) (xvIn I fx l) ∗ rsPts c {c} fullShare (RB I l c))
  | 6 | 7 => iprop(ptPts c {c} fullShare (PB I l c) ∗ xvPts c {c} (ownShare (l + 1)) (XB I (l + 1)) ∗ rsPts c {c} fullShare (RB I l c))
  | 8 => iprop(ptPts c {c} fullShare (PB I l c) ∗ xvPts c {c} (ownShare (l + 1)) (XB I (l + 1)) ∗ ∃ f, rsPts c {c} fullShare f)
  | _ => iprop(ptPts c {c} fullShare (ptIn I f0 l c) ∗ xvPts c {c} (ownShare l) (xvIn I fx l) ∗ ∃ f, rsPts c {c} fullShare f)

/-- Slot `s` at stage `k` of layer `l`. -/
def slot (k : ℕ) : sProp 𝕄 := if s = c then own I f0 fx c l k else peer I f0 fx c s l k

theorem slot_own (k : ℕ) : slot I f0 fx c c l k = own I f0 fx c l k := if_pos rfl
theorem slot_peer (h : s ≠ c) (k : ℕ) : slot I f0 fx c s l k = peer I f0 fx c s l k := if_neg h

/-- The slots, each at its stage. -/
def allSlots (σ : Fin 16 → ℕ) : sProp 𝕄 := bigSep Finset.univ fun s => slot I f0 fx c s l (σ s)

/-! ## A device's holdings -/

/-- A cell: a device's barrier (`none`) or one of its transfer semaphores. -/
abbrev CI : Type := Option (Fin 4 × Fin 16)
def kcell (p : Dev nD × CI) : GSem nD τ sig := match p.2 with
  | none => barCell p.1
  | some k => cell k.1 k.2 p.1

variable (K : Dev nD × CI → ℕ)

/-- Every cell's invariant, and the levels. -/
def ctx : sProp 𝕄 := iprop((bigSep Finset.univ fun p => cellInv ER (sched I) (K p) (kcell p)) ∗ levAts L lv)
instance ctx_persistent : BI.Persistent (ctx I K) := by
  unfold ctx; infer_instance

theorem ctx_lev : ctx I K ⊢ (levAts L lv : sProp 𝕄) := by
  unfold ctx; iintro ⟨-, #Hl⟩; iexact Hl
theorem ctx_inv (p : Dev nD × CI) : ctx I K ⊢ (cellInv ER (sched I) (K p) (kcell p) : sProp 𝕄) := by
  unfold ctx; iintro ⟨#Hi, -⟩
  have h : (bigSep Finset.univ fun p => (cellInv ER (sched I) (K p) (kcell p) : sProp 𝕄)) ⊢ cellInv ER (sched I) (K p) (kcell p) := BI.bigSep_elim (Finset.mem_univ p)
  iapply h; iexact Hi
theorem ctx_cell (k : Fin 4) (s c : Fin 16) : ctx I K ⊢ (cellInv ER (sched I) (K (c, some (k, s))) (cell k s c) : sProp 𝕄) := ctx_inv I K (c, some (k, s))
theorem ctx_bar (c : Dev nD) : ctx I K ⊢ (cellInv ER (sched I) (K (c, none)) (barCell c) : sProp 𝕄) := ctx_inv I K (c, none)

/-- Device `c`, its slots at the stages `σ` of layer `l`; `Y` is what it holds besides. -/
def St (Y : sProp 𝕄) (σ : Fin 16 → ℕ) : sProp 𝕄 :=
  iprop(ctx I K ∗ Y ∗ (∃ W, owes (c : Thread nD τ) (owed c l σ) W) ∗ allSlots I f0 fx c l σ)

end Cert.MlpProof
-- ==== Proof.Steps.lean ====
/-
# One operation at a time: the transfers

Each operation of the program moves one slot (or a group of slots) from a stage to the next. Here the transfers and the
waits, for a device `c` and another device `t`.
-/
module

public import proofs.«01_k».proof.Proof.State
public import Idealize.SL.BI.BigOpNat

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The rest of the run from an operation on, seen from device `c`. -/
abbrev wpOf (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Inp F) (f0 fx : Big F) (K : Dev nD × CI → ℕ) (c : Fin 16) (l : ℕ) (Y : sProp (MT nD τ sig ℕ (Elt F) ℕ UU ℕ))

/-! ## Moving slots -/

/-- Slots `T` taken out at stages `σ` and put back at stages `σ'`. -/
theorem slots_swap (T : Finset (Fin 16)) (σ σ' : Fin 16 → ℕ) (P P' : Fin 16 → sProp 𝕄)
    (hT : ∀ s ∈ T, slot I f0 fx c s l (σ s) ⊢ iprop(P s ∗ (P' s -∗ slot I f0 fx c s l (σ' s)))) (hσ : ∀ s, s ∉ T → σ' s = σ s) :
    allSlots I f0 fx c l σ ⊢ iprop(bigSep T P ∗ (bigSep T P' -∗ allSlots I f0 fx c l σ')) := by
  unfold allSlots
  have hs (σ : Fin 16 → ℕ) : (bigSep Finset.univ fun s => slot I f0 fx c s l (σ s))
      = iprop((bigSep T fun s => slot I f0 fx c s l (σ s)) ∗ bigSep (Finset.univ \ T) fun s => slot I f0 fx c s l (σ s)) :=
    bigSep_sdiff_split (Finset.subset_univ T)
  have hr : bigSep (Finset.univ \ T) (fun s => slot I f0 fx c s l (σ' s)) = bigSep (Finset.univ \ T) fun s => slot I f0 fx c s l (σ s) :=
    bigSep_congr fun s hs => by rw [hσ s (Finset.mem_sdiff.mp hs).2]
  rw [hs σ, hs σ', hr]
  have h1 : bigSep T (fun s => slot I f0 fx c s l (σ s)) ⊢ iprop(bigSep T P ∗ bigSep T fun s => iprop(P' s -∗ slot I f0 fx c s l (σ' s))) :=
    (bigSep_mono hT).trans (Entails.of_eq (bigSep_sep' T _ _))
  have h2 : iprop(bigSep T P' ∗ bigSep T fun s => iprop(P' s -∗ slot I f0 fx c s l (σ' s))) ⊢ bigSep T fun s => slot I f0 fx c s l (σ' s) :=

    have h (s : Fin 16) : iprop(P' s ∗ (P' s -∗ slot I f0 fx c s l (σ' s))) ⊢ slot I f0 fx c s l (σ' s) := by
      iintro ⟨H, Hw⟩; iapply Hw; iexact H
    (Entails.of_eq (bigSep_sep' T _ _).symm).trans (bigSep_mono fun s _ => h s)
  iintro ⟨HT, HR⟩
  ihave HT' := h1 $$ HT
  icases HT' with ⟨HP, HW⟩
  isplitl [HP]; · iexact HP
  iintro HP'
  isplitr [HR]
  · iapply h2; isplitl [HP'] <;> iassumption
  · iexact HR

theorem owed_at (t : Fin 16) (ht : t ≠ c) (σ : Fin 16 → ℕ) :
    owed c l σ = (∑ s ∈ (Finset.univ.erase c).erase t, od c s l (σ s)) + od c t l (σ t) := by
  unfold owed; exact (Finset.sum_erase_add _ _ (Finset.mem_erase.mpr ⟨ht, Finset.mem_univ t⟩)).symm

/-- An operation that moves the one slot `t`. -/
theorem step_at {op : TpuEff nD τ sig (Elt F) Λ₀ .tc PUnit} {Q : PUnit → sProp 𝕄} (t : Fin 16) (ht : t ≠ c) (σ σ' : Fin 16 → ℕ) (hσ : ∀ s, s ≠ t → σ' s = σ s)
    (H : ∀ O W, owed c l σ = O + od c t l (σ t) →
      iprop(ctx I K ∗ owes (c : Thread nD τ) (O + od c t l (σ t)) W ∗ peer I f0 fx c t l (σ t))
        ⊢ iprop(((∃ W', owes (c : Thread nD τ) (O + od c t l (σ' t)) W') ∗ peer I f0 fx c t l (σ' t) -∗ Q ⟨⟩) -∗ wpOf c (Prog.lift op) Q))
    (hQ : St I f0 fx c l K Y σ' ⊢ Q ⟨⟩) : St I f0 fx c l K Y σ ⊢ wpOf c (Prog.lift op) Q := by
  have hO : owed c l σ' = (∑ s ∈ (Finset.univ.erase c).erase t, od c s l (σ s)) + od c t l (σ' t) := by
    rw [owed_at c l t ht σ']; congr 1
    exact Finset.sum_congr rfl fun s hs => by rw [hσ s (Finset.ne_of_mem_erase hs)]
  have hsw := slots_swap I f0 fx c l {t} σ σ' (fun s => slot I f0 fx c s l (σ s)) (fun s => slot I f0 fx c s l (σ' s))
    (fun s _ => by iintro H; isplitl [H]; · iexact H
                   iintro H; iexact H) (fun s hs => hσ s fun h => hs (Finset.mem_singleton.mpr h))
  rw [bigSep_singleton, bigSep_singleton, slot_peer I f0 fx c t l ht, slot_peer I f0 fx c t l ht] at hsw
  unfold St at hQ ⊢
  rw [hO] at hQ
  rw [owed_at c l t ht σ]
  iintro ⟨#Hc, HY, ⟨%W, HO⟩, HS⟩
  ihave HS' := hsw $$ HS
  icases HS' with ⟨HP, HW⟩
  iapply (H _ W (owed_at c l t ht σ)) $$ [HO HP]
  · isplitr; · iexact Hc
    isplitl [HO] <;> iassumption
  iintro ⟨HO, HP⟩
  iapply hQ
  isplitr; · iexact Hc
  isplitl [HY]; · iexact HY
  isplitl [HO]; · iexact HO
  iapply HW; iexact HP

/-! ## Semaphores as transfers name them -/

/-- The semaphore a transfer names: entry `off` of one of the four arrays. -/
theorem sem_at (k : Fin 4) (s : Fin 16) (base : ℕ) (hbase : base = 8 + 16 * k.val) {off : Fin 1 → ℕ} (h : ∀ a, off a + S1.size a ≤ S16.size a)
    (ho : off = ![s.val]) (hb : base + S16.numel ≤ 72) :
    (((SemArray.consecutive (n := 72) base S16 hb).slice (Rect.unit (s := S16) off S1.size h)).squeeze S_ squeezes_S1_S_).sem = dsem k s := by
  subst ho; subst hbase
  refine Fin.ext ?_
  show 8 + 16 * k.val + (S16.rowMajor ((Rect.unit (s := S16) ![s.val] S1.size h).emb _) : ℕ) = 8 + 16 * k.val + s.val
  refine congrArg (8 + 16 * k.val + ·) ((Shape.rowMajor_val_one (d := ![16]) _).trans ?_)
  rw [Rect.emb_apply]
  have hj : ∀ j : S1.Idx, (j 0).val = 0 := fun j => by have : (j 0).val < 1 := (j 0).isLt; omega
  show s.val + 1 * (_ : ℕ) = s.val
  rw [hj]; omega

/-! ## Waiting for a transfer -/

section Wait
variable {sp sp' : Space} {s s' : Shape} {e e' : EltTy} {q : DmaSem sig} {src : Memref sig .tc sp' s' e'} {dst : Memref sig .tc sp s e}
  {h1 : src.view.WordExact} {h2 : dst.view.WordExact}

/-- The wait for round `r` of one of one's own cells, everything owed lying above it: its landing's payload. -/
theorem wait_cell {Q : PUnit → sProp 𝕄} (k : Fin 4) (t : Fin 16) (ht : t ≠ c) (hq : q = dsem k t) (hN : dst.view.dmaCredit = N) {r i : ℕ} (hr : r < 3) (hi : i < 3)
    {b : ℕ} (hlv : lv (cell k t c) i < b) {O : CellTallies nD τ sig ℕ} (hO : Above b O) (W : Waits sig ℕ) :
    iprop(ctx I K ∗ cred (tallyAt (cell k t c) i N) ∗ owes (c : Thread nD τ) O W ∗ posn (cell k t c) r)
      ⊢ iprop((((∃ W', owes (c : Thread nD τ) O W') ∗ posn (cell k t c) (r + 1) ∗ xferPay I k.val t c r) -∗ Q ⟨⟩)
          -∗ wpOf c (Prog.lift (.waitDma2 q src dst h1 h2)) Q) := by
  subst hq
  unfold posn wpOf Prog.lift
  iintro ⟨#Hc, Hcr, HO, Hat, -⟩ Hk
  ihave #HI := (ctx_cell I K k t c) $$ Hc
  ihave #Hl := (ctx_lev I K) $$ Hc
  iapply (Rounds.wp_wait_rest_token 𝒱₀ ER (sched I) (c : Thread nD τ) none (κ := K (c, some (k, t)))
      (wpE_waitDma2_eq 𝒱₀ (c : Thread nD τ) none Set.univ) (Set.mem_univ _) i (O := O) (W := W) (R := r) (m := 0) (T := ∅)
      (by rw [Nat.zero_add, hN]; exact (expect_cell I c t k r hr ht).symm)) $$ [Hcr HO Hat]
  · isplitr; · iexact HI
    rw [hN]
    isplitl [Hcr]; · iexact Hcr
    isplitl [HO]; · iexact HO
    isplitr; · iapply (mayWait c (.dma (dsem k t)) hi hlv hO); iexact Hl
    iexact Hat
  iintro ⟨HO, Hat, Hr, Hpay⟩
  ihave Hp := (Entails.of_eq (rest_cell I c t k r hr ht)) $$ Hpay
  rw [wp_ret]; imodintro
  iapply Hk
  isplitl [HO]; · iexists _; iexact HO
  isplitl [Hat Hr]; · isplitl [Hat] <;> iassumption
  iexact Hp

theorem xfer_res (t l : _) : xferPay I (1 : Fin 4).val t c l = recvResPay I c t l := rfl
theorem xfer_sum (t l : _) : xferPay I (3 : Fin 4).val t c l = recvSumPay I c t l := rfl
theorem xfer_sentRes (t l : _) : xferPay I (0 : Fin 4).val t c l = sentResPay I c t l := rfl
theorem xfer_sentSum (t l : _) : xferPay I (2 : Fin 4).val t c l = sentSumPay I c t l := rfl

/-- The wait for `t`'s results: stage 3 to 4. -/
theorem wait_res {Q : PUnit → sProp 𝕄} (t : Fin 16) (ht : t ≠ c) (hl : l < 3) (hq : q = dsem 1 t) (hN : dst.view.dmaCredit = N) (σ σ' : Fin 16 → ℕ)
    (h3 : σ t = 3) (h4 : σ' t = 4) (hσ : ∀ s, s ≠ t → σ' s = σ s) (hall : ∀ s, s ≠ c → 3 ≤ σ s)
    (hQ : St I f0 fx c l K Y σ' ⊢ Q ⟨⟩) : St I f0 fx c l K Y σ ⊢ wpOf c (Prog.lift (.waitDma2 q src dst h1 h2)) Q := by
  refine step_at I f0 fx K c l Y t ht σ σ' hσ (fun O W hO => ?_) hQ
  have hab : Above (2 + 2 * l + 1) (O + od c t l (σ t)) := hO ▸ above_owed c hl σ fun s hs => by
    have := hall s hs; rw [if_neg (by omega)]
  rw [h3] at hab ⊢; rw [h4]
  show iprop(ctx I K ∗ owes (c : Thread nD τ) (O + od c t l 3) W ∗ peer3 c t l)
    ⊢ iprop(((∃ W', owes (c : Thread nD τ) (O + od c t l 3) W') ∗ peer4 I c t l -∗ Q ⟨⟩) -∗ _)
  unfold peer3 peer4
  iintro ⟨#Hc, HO, H1, H2, H3, H4, H5, H6, H7, H8, H9, H10⟩ Hk
  iapply (wait_cell I K c 1 t ht hq hN (r := l) (i := l) hl hl (by rw [lv_cell]; exact Nat.lt_succ_self _) hab W) $$ [H8 HO H3]
  · iframe; iexact Hc
  rw [xfer_res]; unfold recvResPay
  iintro ⟨HO, H3, Hp1, Hp2, Hp3⟩
  iapply Hk
  isplitl [HO]; · iexact HO
  iframe

/-- The wait for the copy of the results to `t` to have left: stage 7 to 8. -/
theorem wait_sentRes {Q : PUnit → sProp 𝕄} (t : Fin 16) (ht : t ≠ c) (hl : l < 3) (hq : q = dsem 0 t) (hN : dst.view.dmaCredit = N) (σ σ' : Fin 16 → ℕ)
    (h7 : σ t = 7) (h8 : σ' t = 8) (hσ : ∀ s, s ≠ t → σ' s = σ s)
    (hQ : St I f0 fx c l K Y σ' ⊢ Q ⟨⟩) : St I f0 fx c l K Y σ ⊢ wpOf c (Prog.lift (.waitDma2 q src dst h1 h2)) Q := by
  refine step_at I f0 fx K c l Y t ht σ σ' hσ (fun O W hO => ?_) hQ
  have hab : Above 1 (O + od c t l (σ t)) := hO ▸ above_owed c hl σ fun s hs => by omega
  rw [h7] at hab ⊢; rw [h8]
  show iprop(ctx I K ∗ owes (c : Thread nD τ) (O + od c t l 7) W ∗ peer7 I c t l)
    ⊢ iprop(((∃ W', owes (c : Thread nD τ) (O + od c t l 7) W') ∗ peerA I c t l -∗ Q ⟨⟩) -∗ _)
  unfold peer7 peerA
  iintro ⟨#Hc, HO, H1, H2, H3⟩ Hk
  iapply (wait_cell I K c 0 t ht hq hN (r := l) (i := 0) hl (by decide) (by rw [lv_cell]; exact Nat.lt_succ_self _) hab W) $$ [H1 HO H2]
  · iframe; iexact Hc
  rw [xfer_sentRes]; unfold sentResPay
  iintro ⟨HO, H1, Hp⟩
  iapply Hk
  isplitl [HO]; · iexact HO
  iframe

/-- The copy of the sum of layer `l` to `t` has left: its share of the sum is back. -/
theorem wait_agOut {Q : PUnit → sProp 𝕄} (t : Fin 16) (ht : t ≠ c) (hl : l < 3) (hq : q = dsem 2 t) (hN : dst.view.dmaCredit = N)
    {O : CellTallies nD τ sig ℕ} (hO : Above 1 O) (W : Waits sig ℕ) :
    iprop(ctx I K ∗ owes (c : Thread nD τ) O W ∗ agOut c t (l + 1))
      ⊢ iprop((((∃ W', owes (c : Thread nD τ) O W') ∗ posn (cell 2 t c) (l + 1) ∗ lent I c t (l + 1)) -∗ Q ⟨⟩)
          -∗ wpOf c (Prog.lift (.waitDma2 q src dst h1 h2)) Q) := by
  unfold agOut lent
  rw [if_neg (Nat.succ_ne_zero l)]
  iintro ⟨#Hc, HO, H1, H2⟩ Hk
  iapply (wait_cell I K c 2 t ht hq hN (r := l) (i := 0) hl (by decide) (by rw [lv_cell]; exact Nat.lt_succ_self _) hO W) $$ [H1 HO H2]
  · iframe; iexact Hc
  rw [xfer_sentSum]; unfold sentSumPay
  iexact Hk

/-- The wait for the copy of the previous sum to `t` to have left: stage 4 to 5. -/
theorem wait_sentSum {Q : PUnit → sProp 𝕄} (t : Fin 16) (ht : t ≠ c) (hl : l + 1 < 3) (hq : q = dsem 2 t) (hN : dst.view.dmaCredit = N) (σ σ' : Fin 16 → ℕ)
    (h4 : σ t = 4) (h5 : σ' t = 5) (hσ : ∀ s, s ≠ t → σ' s = σ s)
    (hQ : St I f0 fx c (l + 1) K Y σ' ⊢ Q ⟨⟩) : St I f0 fx c (l + 1) K Y σ ⊢ wpOf c (Prog.lift (.waitDma2 q src dst h1 h2)) Q := by
  refine step_at I f0 fx K c (l + 1) Y t ht σ σ' hσ (fun O W hO => ?_) hQ
  have hab : Above 1 (O + od c t (l + 1) (σ t)) := hO ▸ above_owed c hl σ fun s hs => by omega
  rw [h4] at hab ⊢; rw [h5]
  show iprop(ctx I K ∗ owes (c : Thread nD τ) (O + od c t (l + 1) 4) W ∗ peer4 I c t (l + 1))
    ⊢ iprop(((∃ W', owes (c : Thread nD τ) (O + od c t (l + 1) 4) W') ∗ peer5 I c t (l + 1) -∗ Q ⟨⟩) -∗ _)
  unfold peer4 peer5
  iintro ⟨#Hc, HO, H1, H2, H3, H4, H5⟩ Hk
  iapply (wait_agOut I K c l t ht (by omega) hq hN hab W) $$ [HO H4]
  · iframe; iexact Hc
  iintro ⟨HO, H4⟩
  iapply Hk
  isplitl [HO]; · iexact HO
  iframe

/-- The same at the end of the run: stage 1 to 9. -/
theorem wait_sentLast {Q : PUnit → sProp 𝕄} (t : Fin 16) (ht : t ≠ c) (hq : q = dsem 2 t) (hN : dst.view.dmaCredit = N) (σ σ' : Fin 16 → ℕ)
    (h1' : σ t = 1) (h9 : σ' t = 9) (hσ : ∀ s, s ≠ t → σ' s = σ s) (hall : ∀ s, s ≠ c → σ s ≤ 2 ∨ 7 ≤ σ s)
    (hQ : St I f0 fx c 3 K Y σ' ⊢ Q ⟨⟩) : St I f0 fx c 3 K Y σ ⊢ wpOf c (Prog.lift (.waitDma2 q src dst h1 h2)) Q := by
  refine step_at I f0 fx K c 3 Y t ht σ σ' hσ (fun O W hO => ?_) hQ
  have hab : Above 1 (O + od c t 3 (σ t)) := by rw [← hO, owed_end c σ hall]; exact Above.zero 1
  have hod : od c t 3 9 = od c t 3 1 := by
    show tail c t 4 = tail c t 3
    rw [tail_end c t 4 (by decide), tail_end c t 3 (by decide)]
  rw [h1'] at hab ⊢; rw [h9, hod]
  show iprop(ctx I K ∗ owes (c : Thread nD τ) (O + od c t 3 1) W ∗ peer1 I f0 fx c t 3)
    ⊢ iprop(((∃ W', owes (c : Thread nD τ) (O + od c t 3 1) W') ∗ peer9 I f0 fx c t 3 -∗ Q ⟨⟩) -∗ _)
  unfold peer1 peer9 peer12
  iintro ⟨#Hc, HO, H1, H2, H3, H4, H5, H6⟩ Hk
  iapply (wait_agOut I K c 2 t ht (by decide) hq hN hab W) $$ [HO H5]
  · iframe; iexact Hc
  iintro ⟨HO, H5⟩
  iapply Hk
  isplitl [HO]; · iexact HO
  iframe

/-- The wait for `t`'s sum: stage 0 of a layer to 1. -/
theorem wait_sum {Q : PUnit → sProp 𝕄} (t : Fin 16) (ht : t ≠ c) (hl : l < 3) (hq : q = dsem 3 t) (hN : dst.view.dmaCredit = N) (σ σ' : Fin 16 → ℕ)
    (h0 : σ t = 0) (h1' : σ' t = 1) (hσ : ∀ s, s ≠ t → σ' s = σ s) (hall : l + 1 < 3 ∨ ∀ s, s ≠ c → σ s ≤ 2)
    (hQ : St I f0 fx c (l + 1) K Y σ' ⊢ Q ⟨⟩) : St I f0 fx c (l + 1) K Y σ ⊢ wpOf c (Prog.lift (.waitDma2 q src dst h1 h2)) Q := by
  refine step_at I f0 fx K c (l + 1) Y t ht σ σ' hσ (fun O W hO => ?_) hQ
  have hab : Above (4 + 2 * l) (O + od c t (l + 1) (σ t)) := by
    rw [← hO]
    rcases hall with h | h
    · exact above_owed c h σ fun s _ => by omega
    · rcases Nat.lt_or_ge (l + 1) 3 with h' | h'
      · exact above_owed c h' σ fun s _ => by omega
      · have e : l = 2 := by omega
        subst e
        rw [owed_end c σ fun s hs => Or.inl (h s hs)]; exact Above.zero _
  rw [h0] at hab ⊢; rw [h1']
  replace hab : Above (4 + 2 * l) (O + od c t (l + 1) 1) := hab
  show iprop(ctx I K ∗ owes (c : Thread nD τ) (O + od c t (l + 1) 1) W ∗ peerA I c t l)
    ⊢ iprop(((∃ W', owes (c : Thread nD τ) (O + od c t (l + 1) 1) W') ∗ peer1 I f0 fx c t (l + 1) -∗ Q ⟨⟩) -∗ _)
  unfold peerA peer1 peer12
  iintro ⟨#Hc, HO, H1, H2, H3, H4, H5, H6, H7, H8⟩ Hk
  iapply (wait_cell I K c 3 t ht hq hN (r := l) (i := l) hl hl (by rw [lv_cell]; exact (by omega : 3 + 2 * l < 4 + 2 * l)) hab W) $$ [H5 HO H6]
  · iframe; iexact Hc
  rw [xfer_sum]; unfold recvSumPay
  iintro ⟨HO, H5, Hp1, Hp2⟩
  iapply Hk
  isplitl [HO]; · iexact HO
  unfold ptIn xvIn
  iframe

end Wait

/-! ## Sending a slot -/

section Send
variable {offs offd : Fin 3 → ℕ} (hs : ∀ a, offs a + S1x32x256.size a ≤ S16x32x256.size a) (hd : ∀ a, offd a + S1x32x256.size a ≤ S16x32x256.size a)
  {q1 q2 : DmaSem sig} {n : Dev nD}

theorem pt_slot (t : Fin 16) (ho : offs = ![t.val, 0, 0]) (q : PosShare TreeShare) (f : Big F) :
    (((slotMem PT offs hs).view.loc (c : Thread nD τ)) ↦[(slotMem PT offs hs).view.set]{q} f : sProp 𝕄) = ptPts c {t} q f := by
  rw [slotPT_set hs t ho]; rfl
theorem rs_slot (t : Fin 16) (ho : offs = ![t.val, 0, 0]) (q : PosShare TreeShare) (f : Big F) :
    (((slotMem RS offs hs).view.loc (c : Thread nD τ)) ↦[(slotMem RS offs hs).view.set]{q} f : sProp 𝕄) = rsPts c {t} q f := by
  rw [slotRS_set hs t ho]; rfl
theorem xv_slot (t : Fin 16) (ho : offs = ![t.val, 0, 0]) (q : PosShare TreeShare) (f : Big F) :
    (((slotMem XV offs hs).view.loc (c : Thread nD τ)) ↦[(slotMem XV offs hs).view.set]{q} f : sProp 𝕄) = xvPts c {t} q f := by
  rw [slotXV_set hs t ho]; rfl

theorem rsPts_congr (T : Finset (Fin 16)) (q : PosShare TreeShare) (f g : Big F) (h : ∀ i ∈ slots T, f i = g i) : rsPts c T q f = rsPts c T q g := pointsTo_congr h
theorem xvPts_congr (T : Finset (Fin 16)) (q : PosShare TreeShare) (f g : Big F) (h : ∀ i ∈ slots T, f i = g i) : xvPts c T q f = xvPts c T q g := pointsTo_congr h
theorem ptPts_congr (T : Finset (Fin 16)) (q : PosShare TreeShare) (f g : Big F) (h : ∀ i ∈ slots T, f i = g i) : ptPts c T q f = ptPts c T q g := pointsTo_congr h

theorem rest_step (t : Fin 16) (hl : l < 3) : (rest c t l : sProp 𝕄) = iprop(toks c t l ∗ rest c t (l + 1)) := Idealize.SL.BI.bigSep_Ico_succ_bot hl _

/-- The results for `t` sent: stage 2 to 3. -/
theorem send_res {Q : PUnit → sProp 𝕄} (t : Fin 16) (ht : t ≠ c) (hl : l < 3) (hos : offs = ![t.val, 0, 0]) (hod : offd = ![c.val, 0, 0])
    (hq1 : q1 = dsem 0 t) (hq2 : q2 = dsem 1 c) (hn : n = t) {hsc : (slotMem RS offd hd).view.ref.isScScratch = false}
    {w1 : (slotMem PT offs hs).view.WordExact} {w2 : (slotMem RS offd hd).view.WordExact}
    {hsem : DmaTarget.Typed .vmem (.dma q2) (.remote (Dev.tc n : Thread nD τ) (slotMem RS offd hd) (.dma q1) hsc)}
    (σ σ' : Fin 16 → ℕ) (h2' : σ t = 2) (h3 : σ' t = 3) (hσ : ∀ s, s ≠ t → σ' s = σ s)
    (hQ : St I f0 fx c l K Y σ' ⊢ Q ⟨⟩) :
    St I f0 fx c l K Y σ ⊢ wpOf c (Prog.lift (.enqueueDma (slotMem PT offs hs) (.remote (Dev.tc n : Thread nD τ) (slotMem RS offd hd) (.dma q1) hsc)
      (.dma q2) w1 w2 hsem)) Q := by
  refine step_at I f0 fx K c l Y t ht σ σ' hσ (fun O W hO => ?_) hQ
  subst hn hq1 hq2
  rw [h2', h3]
  show iprop(ctx I K ∗ owes (c : Thread nD τ) (O + tail c n l) W ∗ peer2 I fx c n l)
    ⊢ iprop(((∃ W', owes (c : Thread nD τ) (O + (agO c n l + tail c n (l + 1))) W') ∗ peer3 c n l -∗ Q ⟨⟩) -∗ _)
  unfold peer2 peer3 peer12 nextRes posn Prog.lift
  rw [if_pos hl, rest_step c l n hl]; unfold toks
  iintro ⟨#Hc, HO, Hpt, Hxv, ⟨Ha0, #Hr0⟩, ⟨Ha1, #Hr1⟩, Hag, ⟨Ha3, #Hr3⟩, ⟨⟨%fd, Hrs⟩, #Hrd⟩, -, ⟨Ht0, Ht1, Ht2, Ht3, Hc1, Hc3⟩, Hrest⟩ Hk
  ihave #HI0 := (ctx_cell I K 0 n c) $$ Hc
  ihave #HI1 := (ctx_cell I K 1 c n) $$ Hc
  iapply (Rounds.wp_send_pointsTo_with 𝒱₀ ER (sched I) (c : Thread nD τ) none (κ₁ := K (c, some (0, n))) (κ₂ := K (n, some (1, c)))
      (r₁ := l) (r₂ := l) (d₁ := 0) (d₂ := 0) (fs := PB I l c) (fd := fd) (q := fullShare)
      (F := iprop((∃ f, xvPts c {n} fullShare f) ∗ reached ER (cell 3 n c) l))
      (by rw [duties_cell I c n 0 l hl ht]; exact Finset.mem_singleton_self _)
      (by rw [duties_cell I n c 1 l hl ht.symm]; exact Finset.mem_singleton_self _)
      l 0 N rfl rfl rfl (O₀ := O + tail c n l) (O + (agO c n l + tail c n (l + 1))) (by rw [tail_step c n l hl, ← add_assoc]; rfl) (W := W)
      (by rw [pt_slot c hs n hos, payload_cell]; exact BI.Entails.refl _)
      (by
        rw [payload_cell, rs_slot n hd c hod, rsPts_congr n {c} fullShare _ (RB I l n) fun i hi => ?_]
        · exact BI.Entails.refl _
        · rw [landed_RS hs hd n c hos hod fd _ i hi]
          rw [mem_slots, Finset.mem_singleton] at hi
          show PB I l c (at3 n (i 1) (i 2)) = part I (slotOf i) l (XB I l) (at3 n (i 1) (i 2))
          rw [hi]; rfl)) $$ [HO Hpt Hrs Hxv Ht0 Ht1]
  · rw [pt_slot c hs n hos, rs_slot n hd c hod]
    isplitr; · iexact HI0
    isplitr; · iexact HI1
    isplitl [Hpt]; · iexact Hpt
    isplitl [Hrs Hxv]
    · isplitl [Hrs]; · iexact Hrs
      isplitl [Hxv]; · iexists _; iexact Hxv
      iexact Hr3
    isplitl [HO]; · iexact HO
    isplitl [Ht0]; · iexact Ht0
    isplitr; · iexact Hr0
    isplitl [Ht1]; · iexact Ht1
    iexact Hrd
  iintro ⟨Hcr, HO⟩
  rw [wp_ret]; imodintro
  iapply Hk
  isplitl [HO]; · iexists _; iexact HO
  iframe
  isplitl; · iexact Hr0
  isplitl; · iexact Hr1
  iexact Hr3

/-- With a sum goes, except after the last layer, the collected results' slot. -/
theorem nextRes_kept (t : Fin 16) (hl : l < 3) :
    iprop(rsPts c {t} fullShare (RB I l c) ∗ reached ER (cell 1 t c) (l + 1)) ⊢ iprop(nextRes t c (l + 1) ∗ kept I c t (l + 1)) := by
  unfold nextRes kept
  split
  · iintro ⟨H1, H2⟩
    isplitl [H1 H2]
    · isplitl [H1]; · iexists _; iexact H1
      iexact H2
    iempintro
  · have e : l = 2 := by omega
    subst e
    iintro ⟨H1, -⟩
    isplitr; · iempintro
    iexact H1

theorem agOut_succ (t : Fin 16) : (agOut c t (l + 1) : sProp 𝕄) = iprop(posn (cell 2 t c) l ∗ cred (tallyAt (cell 2 t c) 0 N)) := rfl

/-- The sum sent to `t`: stage 6 to 7. -/
theorem send_sum {Q : PUnit → sProp 𝕄} (t : Fin 16) (ht : t ≠ c) (hl : l < 3) (hos : offs = ![c.val, 0, 0]) (hod : offd = ![c.val, 0, 0])
    (hq1 : q1 = dsem 2 t) (hq2 : q2 = dsem 3 c) (hn : n = t) {hsc : (slotMem XV offd hd).view.ref.isScScratch = false}
    {w1 : (slotMem XV offs hs).view.WordExact} {w2 : (slotMem XV offd hd).view.WordExact}
    {hsem : DmaTarget.Typed .vmem (.dma q2) (.remote (Dev.tc n : Thread nD τ) (slotMem XV offd hd) (.dma q1) hsc)}
    (σ σ' : Fin 16 → ℕ) (h6 : σ t = 6) (h7 : σ' t = 7) (hσ : ∀ s, s ≠ t → σ' s = σ s)
    (hQ : St I f0 fx c l K Y σ' ⊢ Q ⟨⟩) :
    St I f0 fx c l K Y σ ⊢ wpOf c (Prog.lift (.enqueueDma (slotMem XV offs hs) (.remote (Dev.tc n : Thread nD τ) (slotMem XV offd hd) (.dma q1) hsc)
      (.dma q2) w1 w2 hsem)) Q := by
  refine step_at I f0 fx K c l Y t ht σ σ' hσ (fun O W hO => ?_) hQ
  subst hn hq1 hq2
  rw [h6, h7]
  show iprop(ctx I K ∗ owes (c : Thread nD τ) (O + (agO c n l + tail c n (l + 1))) W ∗ peer6 I c n l)
    ⊢ iprop(((∃ W', owes (c : Thread nD τ) (O + tail c n (l + 1)) W') ∗ peer7 I c n l -∗ Q ⟨⟩) -∗ _)
  unfold peer6 peer7 lent
  rw [if_neg (Nat.succ_ne_zero l), agOut_succ]
  unfold posn Prog.lift
  iintro ⟨#Hc, HO, H0, Hs0, ⟨Ha1, #Hr1⟩, ⟨⟨Ha2, #Hr2⟩, Hxv⟩, H3, Ht2, Ht3, Hc3, Hrest, Hrs, ⟨%fd, Hx⟩, #Hrd⟩ Hk
  ihave #HI0 := (ctx_cell I K 2 n c) $$ Hc
  ihave #HI1 := (ctx_cell I K 3 c n) $$ Hc
  ihave HF := (nextRes_kept I c l n hl) $$ [Hrs]
  · isplitl; · iexact Hrs
    iexact Hr1
  icases HF with ⟨HF, Hkept⟩
  iapply (Rounds.wp_send_pointsTo_with 𝒱₀ ER (sched I) (c : Thread nD τ) none (κ₁ := K (c, some (2, n))) (κ₂ := K (n, some (3, c)))
      (r₁ := l) (r₂ := l) (d₁ := 0) (d₂ := 0) (fs := XB I (l + 1)) (fd := fd) (q := piece c n)
      (F := nextRes n c (l + 1))
      (by rw [duties_cell I c n 2 l hl ht]; exact Finset.mem_singleton_self _)
      (by rw [duties_cell I n c 3 l hl ht.symm]; exact Finset.mem_singleton_self _)
      l 0 N rfl rfl rfl (O₀ := O + (agO c n l + tail c n (l + 1))) (O + tail c n (l + 1)) (by rw [add_comm (agO c n l) (tail c n (l + 1)), ← add_assoc]; rfl) (W := W)
      (by rw [xv_slot c hs c hos, payload_cell]; exact BI.Entails.refl _)
      (by
        rw [payload_cell, xv_slot n hd c hod, xvPts_congr n {c} fullShare _ (XB I (l + 1)) fun i hi => ?_]
        · exact BI.Entails.refl _
        · rw [landed_XV hs hd c c hos hod fd _ i hi]
          rw [mem_slots, Finset.mem_singleton] at hi
          conv_rhs => rw [eq_at3 i, hi])) $$ [HO Hxv Hx HF Ht2 Ht3]
  · rw [xv_slot c hs c hos, xv_slot n hd c hod]
    isplitr; · iexact HI0
    isplitr; · iexact HI1
    isplitl [Hxv]; · iexact Hxv
    isplitl [Hx HF]
    · isplitl [Hx]; · iexact Hx
      iexact HF
    isplitl [HO]; · iexact HO
    isplitl [Ht2]; · iexact Ht2
    isplitr; · iexact Hr2
    isplitl [Ht3]; · iexact Ht3
    iexact Hrd
  iintro ⟨Hcr, HO⟩
  rw [wp_ret]; imodintro
  iapply Hk
  isplitl [HO]; · iexists _; iexact HO
  iframe
  isplitl; · iexact Hr1
  iexact Hr2

end Send

end Cert.MlpProof
-- ==== Proof.Local.lean ====
/-
# One operation at a time: loads and stores

The loads and stores on the device's own buffers, and the steps that change only how the holdings are written.
-/
module

public import proofs.«01_k».proof.Proof.Steps

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (f0 fx : Big F) (K : Dev nD × CI → ℕ) (c : Fin 16) (l : ℕ) (Y : sProp (MT nD τ sig ℕ (Elt F) ℕ UU ℕ))

/-! ## Groups of slots -/

theorem pt_group (T : Finset (Fin 16)) (q : PosShare TreeShare) (f : Big F) : ptPts c T q f = bigSep T fun s => ptPts c {s} q f := by
  unfold ptPts; rw [slots_eq_biUnion T]; exact pointsTo_biUnion T _ fun s _ t _ h => slots_disjoint h
theorem rs_group (T : Finset (Fin 16)) (q : PosShare TreeShare) (f : Big F) : rsPts c T q f = bigSep T fun s => rsPts c {s} q f := by
  unfold rsPts; rw [slots_eq_biUnion T]; exact pointsTo_biUnion T _ fun s _ t _ h => slots_disjoint h
theorem xv_group (T : Finset (Fin 16)) (q : PosShare TreeShare) (f : Big F) : xvPts c T q f = bigSep T fun s => xvPts c {s} q f := by
  unfold xvPts; rw [slots_eq_biUnion T]; exact pointsTo_biUnion T _ fun s _ t _ h => slots_disjoint h

/-- The slots of group `g`. -/
def grp (g : Fin 4) : Finset (Fin 16) := Finset.univ.filter fun s => s.val / 4 = g.val
theorem mem_grp (g : Fin 4) (s : Fin 16) : s ∈ grp g ↔ 4 * g.val ≤ s.val ∧ s.val < 4 * g.val + 4 := by
  unfold grp; rw [Finset.mem_filter]
  constructor
  · rintro ⟨-, h⟩; omega
  · intro h; exact ⟨Finset.mem_univ _, by omega⟩

/-! ## An operation on some slots -/

/-- An operation that takes slots `T` out at stages `σ`, puts them back at stages `σ'` and returns some value in `V`. -/
theorem step_local {β : Type} {op : TpuEff nD τ sig (Elt F) Λ₀ .tc β} {Q : β → sProp 𝕄} (V : β → Prop) (T : Finset (Fin 16)) (σ σ' : Fin 16 → ℕ)
    (P P' : Fin 16 → sProp 𝕄) (hσ : ∀ s, s ∉ T → σ' s = σ s) (hod : ∀ s, s ∈ T → s ≠ c → od c s l (σ' s) = od c s l (σ s))
    (hT : ∀ s ∈ T, slot I f0 fx c s l (σ s) ⊢ iprop(P s ∗ (P' s -∗ slot I f0 fx c s l (σ' s))))
    (H : bigSep T P ⊢ iprop((∀ v, ⌜V v⌝ -∗ bigSep T P' -∗ Q v) -∗ wpOf c (Prog.lift op) Q))
    (hQ : ∀ v, V v → St I f0 fx c l K Y σ' ⊢ Q v) : St I f0 fx c l K Y σ ⊢ wpOf c (Prog.lift op) Q := by
  have hO : owed c l σ' = owed c l σ := by
    unfold owed
    refine Finset.sum_congr rfl fun s hs => ?_
    by_cases h : s ∈ T
    · exact hod s h (Finset.ne_of_mem_erase hs)
    · rw [hσ s h]
  have hsw := slots_swap I f0 fx c l T σ σ' P P' hT hσ
  unfold St at hQ ⊢
  rw [hO] at hQ
  iintro ⟨#Hc, HY, HO, HS⟩
  ihave HS' := hsw $$ HS
  icases HS' with ⟨HP, HW⟩
  iapply H $$ HP
  iintro %v %hv HP
  iapply (hQ v hv)
  isplitr; · iexact Hc
  isplitl [HY]; · iexact HY
  isplitl [HO]; · iexact HO
  iapply HW; iexact HP

/-- Holdings written differently. -/
theorem st_mono (σ σ' : Fin 16 → ℕ) (l' : ℕ) (hO : owed c l' σ' = owed c l σ)
    (hT : ∀ s, slot I f0 fx c s l (σ s) ⊢ slot I f0 fx c s l' (σ' s)) : St I f0 fx c l K Y σ ⊢ St I f0 fx c l' K Y σ' := by
  unfold St allSlots
  rw [hO]
  have h : (bigSep Finset.univ fun s => slot I f0 fx c s l (σ s)) ⊢ bigSep Finset.univ fun s => slot I f0 fx c s l' (σ' s) := bigSep_mono fun s _ => hT s
  iintro ⟨#Hc, HY, HO, HS⟩
  isplitr; · iexact Hc
  isplitl [HY]; · iexact HY
  isplitl [HO]; · iexact HO
  iapply h; iexact HS

/-- The device's own slot goes along. -/
theorem st_own (σ σ' : Fin 16 → ℕ) (hσ : ∀ s, s ≠ c → σ' s = σ s) (h : own I f0 fx c l (σ c) ⊢ own I f0 fx c l (σ' c)) :
    St I f0 fx c l K Y σ ⊢ St I f0 fx c l K Y σ' := by
  refine st_mono I f0 fx K c l Y σ σ' l (Finset.sum_congr rfl fun s hs => by rw [hσ s (Finset.ne_of_mem_erase hs)]) fun s => ?_
  by_cases hs : s = c
  · subst hs; rw [slot_own, slot_own]; exact h
  · rw [hσ s hs]

theorem own_7_8 : own I f0 fx c l 7 ⊢ own I f0 fx c l 8 := by
  show iprop(ptPts c {c} fullShare (PB I l c) ∗ xvPts c {c} (ownShare (l + 1)) (XB I (l + 1)) ∗ rsPts c {c} fullShare (RB I l c))
    ⊢ iprop(ptPts c {c} fullShare (PB I l c) ∗ xvPts c {c} (ownShare (l + 1)) (XB I (l + 1)) ∗ ∃ f, rsPts c {c} fullShare f)
  iintro ⟨H1, H2, H3⟩
  iframe H1 H2
  iexists _; iexact H3

/-- The next layer. -/
theorem st_next : St I f0 fx c l K Y (fun _ => 8) ⊢ St I f0 fx c (l + 1) K Y fun _ => 0 := by
  refine st_mono I f0 fx K c l Y _ _ (l + 1) (Finset.sum_congr rfl fun s hs => rfl) fun s => ?_
  by_cases hs : s = c
  · subst hs; rw [slot_own, slot_own]; exact BI.Entails.refl _
  · rw [slot_peer I f0 fx c s _ hs, slot_peer I f0 fx c s _ hs]; exact BI.Entails.refl _

/-- In the first layer no previous sum is on its way. -/
theorem st_first : St I f0 fx c 0 K Y (fun _ => 4) ⊢ St I f0 fx c 0 K Y fun _ => 5 := by
  refine st_mono I f0 fx K c 0 Y _ _ 0 (Finset.sum_congr rfl fun s hs => rfl) fun s => ?_
  by_cases hs : s = c
  · subst hs; rw [slot_own, slot_own]; exact BI.Entails.refl _
  · rw [slot_peer I f0 fx c s _ hs, slot_peer I f0 fx c s _ hs]
    show peer4 I c s 0 ⊢ peer5 I c s 0
    unfold peer4 peer5 lent agOut
    rw [if_pos rfl]
    iintro ⟨H1, H2, H3, H4, H5⟩
    iframe H1 H2 H3 H5
    isplitl [H4]; · iexact H4
    iempintro

/-! ## Loads and stores of the scratch buffers -/

section Access
variable {off : Fin 3 → ℕ} (o n : ℕ) (inb : ∀ a, off a + (![n, 32, 256] : Fin 3 → ℕ) a ≤ S16x32x256.size a) (T : Finset (Fin 16)) (ho : off = ![o, 0, 0])
  (hT : ∀ s : Fin 16, s ∈ T ↔ o ≤ s.val ∧ s.val < o + n)
include ho hT

theorem load_pt {Q : ((⟨3, ![n, 32, 256]⟩ : Shape).Idx → Elt F .bf16) → sProp 𝕄} (q : PosShare TreeShare) (f : Big F)
    {hl : PT.view.LoadsAt (Rect.unit (s := S16x32x256) off ![n, 32, 256] inb).toLoadRect} :
    ptPts c T q f ⊢ iprop((ptPts c T q f -∗ Q (PT.view.readAt (Elt F) (Rect.unit (s := S16x32x256) off ![n, 32, 256] inb).toLoadRect f))
      -∗ wpOf c (Prog.lift (.load PT (Rect.unit (s := S16x32x256) off ![n, 32, 256] inb).toLoadRect hl)) Q) := by
  unfold ptPts wpOf Prog.lift
  iintro H Hk
  iapply (wp_load 𝒱₀ (c : Thread nD τ) none Set.univ (m := PT) (S := slots T) (q := q) (f := f) (by
    rw [← rect_set o n inb T ho hT]; exact (Finset.map_refl (s := _)).le)) $$ H
  iintro H
  rw [wp_ret]; imodintro
  iapply Hk; iexact H

theorem store_pt {Q : PUnit → sProp 𝕄} (f f' : Big F) {w : (⟨3, ![n, 32, 256]⟩ : Shape).Idx → Elt F .bf16}
    {hx : (PT.access (Rect.unit (s := S16x32x256) off ![n, 32, 256] inb)).Stores Finset.univ} {hm}
    (hw : ∀ (j : (⟨3, ![n, 32, 256]⟩ : Shape).Idx) (h : o + (j 0).val < 16), w j = f' (at3 ⟨o + (j 0).val, h⟩ (j 1) (j 2))) :
    ptPts c T fullShare f ⊢ iprop((ptPts c T fullShare f' -∗ Q ⟨⟩)
      -∗ wpOf c (Prog.lift (.store PT (Rect.unit (s := S16x32x256) off ![n, 32, 256] inb) w Finset.univ hx hm)) Q) := by
  unfold wpOf Prog.lift
  iintro H Hk
  unfold ptPts
  iapply (wp_store 𝒱₀ (c : Thread nD τ) none Set.univ (m := PT) (r := Rect.unit (s := S16x32x256) off ![n, 32, 256] inb) (Mk := Finset.univ) (S := slots T) (f := f) (by
    rw [← rect_set o n inb T ho hT]; exact (View.set_slice_whole _ _).le)) $$ H
  iintro H
  rw [wp_ret]; imodintro
  iapply Hk
  have e : ptPts c T fullShare ((PT.access (Rect.unit (s := S16x32x256) off ![n, 32, 256] inb)).write (Elt F) f w Finset.univ) = (ptPts c T fullShare f' : sProp 𝕄) := by
    refine ptPts_congr c T fullShare _ _ fun i hi => ?_
    rw [mem_slots, hT] at hi
    have hi : o ≤ (i 0).val ∧ (i 0).val < o + n := hi
    have h0 : o + ((i 0).val - o) = (i 0).val := by omega
    have hi0 : (i 0).val < 16 := (i 0).isLt
    have h16 : o + ((i 0).val - o) < 16 := by omega
    have ej : i = at3 ⟨o + ((i 0).val - o), h16⟩ (i 1) (i 2) := (eq_at3 i).trans (congrArg (fun a => at3 a (i 1) (i 2)) (Fin.ext h0.symm))
    rw [store_PT o n inb ho f w i (ix3 (n0 := n) (n1 := 32) (n2 := 256) ⟨(i 0).val - o, by omega⟩ (i 1) (i 2)) h16 ej, hw _ h16]
    exact congrArg f' ej.symm
  unfold ptPts at e
  rw [← e]
  iexact H

theorem load_rs {Q : ((⟨3, ![n, 32, 256]⟩ : Shape).Idx → Elt F .bf16) → sProp 𝕄} (q : PosShare TreeShare) (f : Big F)
    {hl : RS.view.LoadsAt (Rect.unit (s := S16x32x256) off ![n, 32, 256] inb).toLoadRect} :
    rsPts c T q f ⊢ iprop((rsPts c T q f -∗ Q (RS.view.readAt (Elt F) (Rect.unit (s := S16x32x256) off ![n, 32, 256] inb).toLoadRect f))
      -∗ wpOf c (Prog.lift (.load RS (Rect.unit (s := S16x32x256) off ![n, 32, 256] inb).toLoadRect hl)) Q) := by
  unfold rsPts wpOf Prog.lift
  iintro H Hk
  iapply (wp_load 𝒱₀ (c : Thread nD τ) none Set.univ (m := RS) (S := slots T) (q := q) (f := f) (by
    rw [← rect_set o n inb T ho hT]; exact (Finset.map_refl (s := _)).le)) $$ H
  iintro H
  rw [wp_ret]; imodintro
  iapply Hk; iexact H

theorem store_rs {Q : PUnit → sProp 𝕄} (f f' : Big F) {w : (⟨3, ![n, 32, 256]⟩ : Shape).Idx → Elt F .bf16}
    {hx : (RS.access (Rect.unit (s := S16x32x256) off ![n, 32, 256] inb)).Stores Finset.univ} {hm}
    (hw : ∀ (j : (⟨3, ![n, 32, 256]⟩ : Shape).Idx) (h : o + (j 0).val < 16), w j = f' (at3 ⟨o + (j 0).val, h⟩ (j 1) (j 2))) :
    rsPts c T fullShare f ⊢ iprop((rsPts c T fullShare f' -∗ Q ⟨⟩)
      -∗ wpOf c (Prog.lift (.store RS (Rect.unit (s := S16x32x256) off ![n, 32, 256] inb) w Finset.univ hx hm)) Q) := by
  unfold wpOf Prog.lift
  iintro H Hk
  unfold rsPts
  iapply (wp_store 𝒱₀ (c : Thread nD τ) none Set.univ (m := RS) (r := Rect.unit (s := S16x32x256) off ![n, 32, 256] inb) (Mk := Finset.univ) (S := slots T) (f := f) (by
    rw [← rect_set o n inb T ho hT]; exact (View.set_slice_whole _ _).le)) $$ H
  iintro H
  rw [wp_ret]; imodintro
  iapply Hk
  have e : rsPts c T fullShare ((RS.access (Rect.unit (s := S16x32x256) off ![n, 32, 256] inb)).write (Elt F) f w Finset.univ) = (rsPts c T fullShare f' : sProp 𝕄) := by
    refine rsPts_congr c T fullShare _ _ fun i hi => ?_
    rw [mem_slots, hT] at hi
    have hi : o ≤ (i 0).val ∧ (i 0).val < o + n := hi
    have h0 : o + ((i 0).val - o) = (i 0).val := by omega
    have hi0 : (i 0).val < 16 := (i 0).isLt
    have h16 : o + ((i 0).val - o) < 16 := by omega
    have ej : i = at3 ⟨o + ((i 0).val - o), h16⟩ (i 1) (i 2) := (eq_at3 i).trans (congrArg (fun a => at3 a (i 1) (i 2)) (Fin.ext h0.symm))
    rw [store_RS o n inb ho f w i (ix3 (n0 := n) (n1 := 32) (n2 := 256) ⟨(i 0).val - o, by omega⟩ (i 1) (i 2)) h16 ej, hw _ h16]
    exact congrArg f' ej.symm
  unfold rsPts at e
  rw [← e]
  iexact H

theorem load_xv {Q : ((⟨3, ![n, 32, 256]⟩ : Shape).Idx → Elt F .bf16) → sProp 𝕄} (q : PosShare TreeShare) (f : Big F)
    {hl : XV.view.LoadsAt (Rect.unit (s := S16x32x256) off ![n, 32, 256] inb).toLoadRect} :
    xvPts c T q f ⊢ iprop((xvPts c T q f -∗ Q (XV.view.readAt (Elt F) (Rect.unit (s := S16x32x256) off ![n, 32, 256] inb).toLoadRect f))
      -∗ wpOf c (Prog.lift (.load XV (Rect.unit (s := S16x32x256) off ![n, 32, 256] inb).toLoadRect hl)) Q) := by
  unfold xvPts wpOf Prog.lift
  iintro H Hk
  iapply (wp_load 𝒱₀ (c : Thread nD τ) none Set.univ (m := XV) (S := slots T) (q := q) (f := f) (by
    rw [← rect_set o n inb T ho hT]; exact (Finset.map_refl (s := _)).le)) $$ H
  iintro H
  rw [wp_ret]; imodintro
  iapply Hk; iexact H

theorem store_xv {Q : PUnit → sProp 𝕄} (f f' : Big F) {w : (⟨3, ![n, 32, 256]⟩ : Shape).Idx → Elt F .bf16}
    {hx : (XV.access (Rect.unit (s := S16x32x256) off ![n, 32, 256] inb)).Stores Finset.univ} {hm}
    (hw : ∀ (j : (⟨3, ![n, 32, 256]⟩ : Shape).Idx) (h : o + (j 0).val < 16), w j = f' (at3 ⟨o + (j 0).val, h⟩ (j 1) (j 2))) :
    xvPts c T fullShare f ⊢ iprop((xvPts c T fullShare f' -∗ Q ⟨⟩)
      -∗ wpOf c (Prog.lift (.store XV (Rect.unit (s := S16x32x256) off ![n, 32, 256] inb) w Finset.univ hx hm)) Q) := by
  unfold wpOf Prog.lift
  iintro H Hk
  unfold xvPts
  iapply (wp_store 𝒱₀ (c : Thread nD τ) none Set.univ (m := XV) (r := Rect.unit (s := S16x32x256) off ![n, 32, 256] inb) (Mk := Finset.univ) (S := slots T) (f := f) (by
    rw [← rect_set o n inb T ho hT]; exact (View.set_slice_whole _ _).le)) $$ H
  iintro H
  rw [wp_ret]; imodintro
  iapply Hk
  have e : xvPts c T fullShare ((XV.access (Rect.unit (s := S16x32x256) off ![n, 32, 256] inb)).write (Elt F) f w Finset.univ) = (xvPts c T fullShare f' : sProp 𝕄) := by
    refine xvPts_congr c T fullShare _ _ fun i hi => ?_
    rw [mem_slots, hT] at hi
    have hi : o ≤ (i 0).val ∧ (i 0).val < o + n := hi
    have h0 : o + ((i 0).val - o) = (i 0).val := by omega
    have hi0 : (i 0).val < 16 := (i 0).isLt
    have h16 : o + ((i 0).val - o) < 16 := by omega
    have ej : i = at3 ⟨o + ((i 0).val - o), h16⟩ (i 1) (i 2) := (eq_at3 i).trans (congrArg (fun a => at3 a (i 1) (i 2)) (Fin.ext h0.symm))
    rw [store_XV o n inb ho f w i (ix3 (n0 := n) (n1 := 32) (n2 := 256) ⟨(i 0).val - o, by omega⟩ (i 1) (i 2)) h16 ej, hw _ h16]
    exact congrArg f' ej.symm
  unfold xvPts at e
  rw [← e]
  iexact H

end Access

/-! ## The accesses of the kernel -/

theorem pt1_keep (s : Fin 16) : slot I f0 fx c s l 1
    ⊢ iprop(ptPts c {s} fullShare (ptIn I f0 l c) ∗ (ptPts c {s} fullShare (ptIn I f0 l c) -∗ slot I f0 fx c s l 1)) := by
  by_cases h : s = c
  · subst h; rw [slot_own]
    simp only [own]
    iintro ⟨H1, H2⟩
    iframe H1
    iintro H1
    iframe H1 H2
  · rw [slot_peer I f0 fx c s l h]
    show peer1 I f0 fx c s l ⊢ iprop(_ ∗ (_ -∗ peer1 I f0 fx c s l))
    unfold peer1
    iintro ⟨H1, H2⟩
    iframe H1
    iintro H1
    iframe H1 H2

theorem pt1_2 (s : Fin 16) : slot I f0 fx c s l 1
    ⊢ iprop(ptPts c {s} fullShare (ptIn I f0 l c) ∗ (ptPts c {s} fullShare (PB I l c) -∗ slot I f0 fx c s l 2)) := by
  by_cases h : s = c
  · subst h; rw [slot_own, slot_own]
    simp only [own]
    iintro ⟨H1, H2⟩
    iframe H1
    iintro H1
    iframe H1 H2
  · rw [slot_peer I f0 fx c s l h, slot_peer I f0 fx c s l h]
    show peer1 I f0 fx c s l ⊢ iprop(_ ∗ (_ -∗ peer2 I fx c s l))
    unfold peer1 peer2
    iintro ⟨H1, H2⟩
    iframe H1
    iintro H1
    iframe H1 H2

section Steps
variable {off : Fin 3 → ℕ}

/-- The load of a group's old results, which nothing uses. -/
theorem read_pt {Q : (S4x32x256.Idx → Elt F .bf16) → sProp 𝕄} (g : Fin 4) (inb : ∀ a, off a + S4x32x256.size a ≤ S16x32x256.size a) (ho : off = ![4 * g.val, 0, 0])
    {hl : PT.view.LoadsAt (Rect.unit (s := S16x32x256) off S4x32x256.size inb).toLoadRect} (σ : Fin 16 → ℕ) (h1 : ∀ s, s ∈ grp g → σ s = 1)
    (hQ : ∀ v, St I f0 fx c l K Y σ ⊢ Q v) :
    St I f0 fx c l K Y σ ⊢ wpOf c (Prog.lift (.load PT (Rect.unit (s := S16x32x256) off S4x32x256.size inb).toLoadRect hl)) Q := by
  refine step_local I f0 fx K c l Y (fun _ => True) (grp g) σ σ (fun s => ptPts c {s} fullShare (ptIn I f0 l c)) (fun s => ptPts c {s} fullShare (ptIn I f0 l c))
    (fun _ _ => rfl) (fun _ _ _ => rfl) (fun s hs => by rw [h1 s hs]; exact pt1_keep I f0 fx c l s) ?_ fun v _ => hQ v
  rw [← pt_group]
  have h := load_pt (hl := hl) c (4 * g.val) 4 inb (grp g) ho (mem_grp g) (Q := Q) fullShare (ptIn I f0 l c)
  iintro H Hk
  iapply h $$ H
  iintro H
  iapply Hk
  · ipureintro; trivial
  · iexact H

/-- The store of a group's results. -/
theorem write_pt {Q : PUnit → sProp 𝕄} (g : Fin 4) (inb : ∀ a, off a + S4x32x256.size a ≤ S16x32x256.size a) (ho : off = ![4 * g.val, 0, 0])
    {w : S4x32x256.Idx → Elt F .bf16} {hx : (PT.access (Rect.unit (s := S16x32x256) off S4x32x256.size inb)).Stores Finset.univ} {hm}
    (hw : w = grpOut I c l (XB I l) g)
    (σ σ' : Fin 16 → ℕ) (h1 : ∀ s, s ∈ grp g → σ s = 1) (h2 : ∀ s, s ∈ grp g → σ' s = 2) (hσ : ∀ s, s ∉ grp g → σ' s = σ s)
    (hQ : St I f0 fx c l K Y σ' ⊢ Q ⟨⟩) :
    St I f0 fx c l K Y σ ⊢ wpOf c (Prog.lift (.store PT (Rect.unit (s := S16x32x256) off S4x32x256.size inb) w Finset.univ hx hm)) Q := by
  refine step_local I f0 fx K c l Y (fun _ => True) (grp g) σ σ' (fun s => ptPts c {s} fullShare (ptIn I f0 l c)) (fun s => ptPts c {s} fullShare (PB I l c))
    hσ (fun s hs _ => by rw [h1 s hs, h2 s hs]; rfl) (fun s hs => by rw [h1 s hs, h2 s hs]; exact pt1_2 I f0 fx c l s) ?_ fun _ _ => hQ
  rw [← pt_group, ← pt_group]
  have h := store_pt (hx := hx) (hm := hm) c (4 * g.val) 4 inb (grp g) ho (mem_grp g) (Q := Q) (ptIn I f0 l c) (PB I l c) (w := w) (by
    intro j hj
    have hj0 : (j 0).val < 4 := (j 0).isLt
    subst hw
    refine congr (congrArg (grpOut I c l (XB I l)) (Fin.ext ?_)) (funext fun a => ?_)
    · show g.val = (4 * g.val + (j 0).val) / 4; omega
    · match a with
      | ⟨0, _⟩ => exact Fin.ext (by show (j 0).val = (4 * g.val + (j 0).val) % 4; omega)
      | ⟨1, _⟩ => rfl
      | ⟨2, _⟩ => rfl)
  iintro H Hk
  iapply h $$ H
  iintro H
  iapply Hk $$ %PUnit.unit
  · ipureintro; trivial
  · iexact H

/-- The load of the device's own slot of its results. -/
theorem read_ptOwn {Q : (S1x32x256.Idx → Elt F .bf16) → sProp 𝕄} (inb : ∀ a, off a + S1x32x256.size a ≤ S16x32x256.size a) (ho : off = ![c.val, 0, 0])
    {hl : PT.view.LoadsAt (Rect.unit (s := S16x32x256) off S1x32x256.size inb).toLoadRect} (σ : Fin 16 → ℕ) (h3 : σ c = 3)
    (hQ : ∀ v : S1x32x256.Idx → Elt F .bf16, (∀ j, v j = PB I l c (at3 c (j 1) (j 2))) → St I f0 fx c l K Y σ ⊢ Q v) :
    St I f0 fx c l K Y σ ⊢ wpOf c (Prog.lift (.load PT (Rect.unit (s := S16x32x256) off S1x32x256.size inb).toLoadRect hl)) Q := by
  refine step_local I f0 fx K c l Y (fun v => ∀ j, v j = PB I l c (at3 c (j 1) (j 2))) {c} σ σ (fun s => ptPts c {s} fullShare (PB I l c)) (fun s => ptPts c {s} fullShare (PB I l c))
    (fun _ _ => rfl) (fun _ _ _ => rfl) (fun s hs => by
      rw [Finset.mem_singleton] at hs; subst hs; rw [h3, slot_own]
      simp only [own]
      iintro ⟨H1, H2⟩
      iframe H1
      iintro H1
      iframe H1 H2) ?_ fun v hv => hQ v hv
  rw [← pt_group]
  have h := load_pt (hl := hl) c c.val 1 inb {c} ho (single_mem c) (Q := Q) fullShare (PB I l c)
  iintro H Hk
  iapply h $$ H
  iintro H
  iapply Hk
  · ipureintro; intro j
    have hj0 : (j 0).val < 1 := (j 0).isLt
    rw [load_PT c.val 1 inb ho (PB I l c) j (by omega)]
    exact congrArg (fun a => PB I l c (at3 a (j 1) (j 2))) (Fin.ext (by show c.val + (j 0).val = c.val; omega))
  · iexact H

theorem own_rs (k : ℕ) (hk : k = 3) : own I f0 fx c l k ⊢ iprop(∃ f, rsPts c {c} fullShare f ∗ (rsPts c {c} fullShare f -∗ own I f0 fx c l k)) := by
  subst hk
  simp only [own]
  iintro ⟨H1, H2, H3⟩
  icases H3 with ⟨%f, H3⟩
  iexists f
  iframe H3
  iintro H3
  iframe H1 H2
  iexists f; iexact H3

/-- The load of the own slot of the collected results, which nothing uses. -/
theorem read_rsOwn {Q : (S1x32x256.Idx → Elt F .bf16) → sProp 𝕄} (inb : ∀ a, off a + S1x32x256.size a ≤ S16x32x256.size a) (ho : off = ![c.val, 0, 0])
    {hl : RS.view.LoadsAt (Rect.unit (s := S16x32x256) off S1x32x256.size inb).toLoadRect} (σ : Fin 16 → ℕ) (h3 : σ c = 3)
    (hQ : ∀ v, St I f0 fx c l K Y σ ⊢ Q v) :
    St I f0 fx c l K Y σ ⊢ wpOf c (Prog.lift (.load RS (Rect.unit (s := S16x32x256) off S1x32x256.size inb).toLoadRect hl)) Q := by
  refine step_local I f0 fx K c l Y (fun _ => True) {c} σ σ (fun s => iprop(∃ f, rsPts c {s} fullShare f)) (fun s => iprop(∃ f, rsPts c {s} fullShare f))
    (fun _ _ => rfl) (fun _ _ _ => rfl) (fun s hs => by
      rw [Finset.mem_singleton] at hs; subst hs; rw [h3, slot_own]
      simp only [own]
      iintro ⟨H1, H2, H3⟩
      iframe H3
      iintro H3
      iframe H1 H2 H3) ?_ fun v _ => hQ v
  have e : (bigSep {c} fun s => iprop(∃ f, rsPts c {s} fullShare f) : sProp 𝕄) = iprop(∃ f, rsPts c {c} fullShare f) := bigSep_singleton
  rw [e]
  iintro H Hk
  icases H with ⟨%f, H⟩
  have h := load_rs (hl := hl) c c.val 1 inb {c} ho (single_mem c) (Q := Q) fullShare f
  iapply h $$ H
  iintro H
  iapply Hk
  · ipureintro; trivial
  · iexists f; iexact H

/-- The store of the device's own part among the collected results. -/
theorem write_rsOwn {Q : PUnit → sProp 𝕄} (inb : ∀ a, off a + S1x32x256.size a ≤ S16x32x256.size a) (ho : off = ![c.val, 0, 0])
    {w : S1x32x256.Idx → Elt F .bf16} {hx : (RS.access (Rect.unit (s := S16x32x256) off S1x32x256.size inb)).Stores Finset.univ} {hm}
    (hw : ∀ j, w j = PB I l c (at3 c (j 1) (j 2)))
    (σ σ' : Fin 16 → ℕ) (h3 : σ c = 3) (h4 : σ' c = 4) (hσ : ∀ s, s ≠ c → σ' s = σ s)
    (hQ : St I f0 fx c l K Y σ' ⊢ Q ⟨⟩) :
    St I f0 fx c l K Y σ ⊢ wpOf c (Prog.lift (.store RS (Rect.unit (s := S16x32x256) off S1x32x256.size inb) w Finset.univ hx hm)) Q := by
  refine step_local I f0 fx K c l Y (fun _ => True) {c} σ σ' (fun s => iprop(∃ f, rsPts c {s} fullShare f)) (fun s => rsPts c {s} fullShare (RB I l c))
    (fun s hs => hσ s fun e => hs (Finset.mem_singleton.mpr e)) (fun s hs hc => absurd (Finset.mem_singleton.mp hs) hc) (fun s hs => by
      rw [Finset.mem_singleton] at hs; subst hs; rw [h3, h4, slot_own, slot_own]
      simp only [own]
      iintro ⟨H1, H2, H3⟩
      iframe H3
      iintro H3
      iframe H1 H2 H3) ?_ fun _ _ => hQ
  have e : (bigSep {c} fun s => iprop(∃ f, rsPts c {s} fullShare f) : sProp 𝕄) = iprop(∃ f, rsPts c {c} fullShare f) := bigSep_singleton
  rw [e, ← rs_group]
  iintro H Hk
  icases H with ⟨%f, H⟩
  have h := store_rs (hx := hx) (hm := hm) c c.val 1 inb {c} ho (single_mem c) (Q := Q) f (RB I l c) (w := w) (by
    intro j hj
    have hj0 : (j 0).val < 1 := (j 0).isLt
    have ec : (⟨c.val + (j 0).val, hj⟩ : Fin 16) = c := Fin.ext (by show c.val + (j 0).val = c.val; omega)
    rw [hw j, ec]; rfl)
  iapply h $$ H
  iintro H
  iapply Hk $$ %PUnit.unit
  · ipureintro; trivial
  · iexact H

/-- The load of everything collected. -/
theorem read_rs {Q : (S16x32x256.Idx → Elt F .bf16) → sProp 𝕄} (inb : ∀ a, off a + S16x32x256.size a ≤ S16x32x256.size a) (ho : off = ![0, 0, 0])
    {hl : RS.view.LoadsAt (Rect.unit (s := S16x32x256) off S16x32x256.size inb).toLoadRect} (hQ : St I f0 fx c l K Y (fun _ => 4) ⊢ Q (RB I l c)) :
    St I f0 fx c l K Y (fun _ => 4) ⊢ wpOf c (Prog.lift (.load RS (Rect.unit (s := S16x32x256) off S16x32x256.size inb).toLoadRect hl)) Q := by
  refine step_local I f0 fx K c l Y (fun v => v = RB I l c) Finset.univ (fun _ => 4) (fun _ => 4) (fun s => rsPts c {s} fullShare (RB I l c)) (fun s => rsPts c {s} fullShare (RB I l c))
    (fun _ _ => rfl) (fun _ _ _ => rfl) (fun s hs => by
      by_cases h : s = c
      · subst h; rw [slot_own]
        simp only [own]
        iintro ⟨H1, H2, H3⟩
        iframe H3
        iintro H3
        iframe H1 H2 H3
      · rw [slot_peer I f0 fx c s l h]
        show peer4 I c s l ⊢ iprop(_ ∗ (_ -∗ peer4 I c s l))
        unfold peer4
        iintro ⟨H1, H2, H3, H4, H5, H6, H7, H8, H9, H10, H11⟩
        iframe H10
        iintro H10
        iframe H1 H2 H3 H4 H5 H6 H7 H8 H9 H10 H11) ?_ fun v hv => hv ▸ hQ
  rw [← rs_group]
  have h := load_rs (hl := hl) c 0 16 inb Finset.univ ho (fun s => by simp) (Q := Q) fullShare (RB I l c)
  iintro H Hk
  iapply h $$ H
  iintro H
  iapply Hk
  · ipureintro
    funext j
    have hj0 : (j 0).val < 16 := (j 0).isLt
    rw [load_RS 0 16 inb ho (RB I l c) j (by omega)]
    refine congrArg (RB I l c) (Eq.trans ?_ (eq_at3 j).symm)
    exact congrArg (fun a => at3 a (j 1) (j 2)) (Fin.ext (by show 0 + (j 0).val = (j 0).val; omega))
  · iexact H

/-! ### The sums -/

theorem full_halves (T : Finset (Fin 16)) (f : Big F) : (xvPts c T fullShare f : sProp 𝕄) ⊢ iprop(xvPts c T fullShare.left f ∗ xvPts c T fullShare.right f) :=
  (pointsTo_share (PosShare.mem_left_op_right fullShare)).1
theorem halves_full (T : Finset (Fin 16)) (f : Big F) : (iprop(xvPts c T fullShare.left f ∗ xvPts c T fullShare.right f) : sProp 𝕄) ⊢ xvPts c T fullShare f :=
  (pointsTo_share (PosShare.mem_left_op_right fullShare)).2

/-- From the second layer on every slot of the input can be read through one half share. -/
theorem xv1_keep (s : Fin 16) : slot I f0 fx c s (l + 1) 1
    ⊢ iprop(xvPts c {s} fullShare.left (XB I (l + 1)) ∗ (xvPts c {s} fullShare.left (XB I (l + 1)) -∗ slot I f0 fx c s (l + 1) 1)) := by
  by_cases h : s = c
  · subst h; rw [slot_own]
    simp only [own, ownShare, if_neg (Nat.succ_ne_zero l)]
    iintro ⟨H1, H2, H3⟩
    isplitl [H2]; · iexact H2
    iintro H2
    iframe H1 H3
    iexact H2
  · rw [slot_peer I f0 fx c s _ h]
    show peer1 I f0 fx c s (l + 1) ⊢ iprop(_ ∗ (_ -∗ peer1 I f0 fx c s (l + 1)))
    unfold peer1
    simp only [xvIn]
    iintro ⟨H1, H2, H3⟩
    ihave H2 := full_halves c {s} (XB I (l + 1)) $$ H2
    icases H2 with ⟨HL, HR⟩
    iframe HL
    iintro HL
    iframe H1 H3
    iapply halves_full c {s} (XB I (l + 1))
    iframe HL HR

/-- The load of a group of the input. -/
theorem read_xv {Q : (S4x32x256.Idx → Elt F .bf16) → sProp 𝕄} (g : Fin 4) (inb : ∀ a, off a + S4x32x256.size a ≤ S16x32x256.size a) (ho : off = ![4 * g.val, 0, 0])
    {hl : XV.view.LoadsAt (Rect.unit (s := S16x32x256) off S4x32x256.size inb).toLoadRect} (σ : Fin 16 → ℕ) (h1 : ∀ s, s ∈ grp g → σ s = 1)
    (hQ : St I f0 fx c (l + 1) K Y σ ⊢ Q (xgrp (XB I (l + 1)) g)) :
    St I f0 fx c (l + 1) K Y σ ⊢ wpOf c (Prog.lift (.load XV (Rect.unit (s := S16x32x256) off S4x32x256.size inb).toLoadRect hl)) Q := by
  refine step_local I f0 fx K c (l + 1) Y (fun v => v = xgrp (XB I (l + 1)) g) (grp g) σ σ (fun s => xvPts c {s} fullShare.left (XB I (l + 1))) (fun s => xvPts c {s} fullShare.left (XB I (l + 1)))
    (fun _ _ => rfl) (fun _ _ _ => rfl) (fun s hs => by rw [h1 s hs]; exact xv1_keep I f0 fx c l s) ?_ fun v hv => hv ▸ hQ
  rw [← xv_group]
  have h := load_xv (hl := hl) c (4 * g.val) 4 inb (grp g) ho (mem_grp g) (Q := Q) fullShare.left (XB I (l + 1))
  iintro H Hk
  iapply h $$ H
  iintro H
  iapply Hk
  · ipureintro
    funext j
    have hj0 : (j 0).val < 4 := (j 0).isLt
    rw [load_XV (4 * g.val) 4 inb ho (XB I (l + 1)) j (by omega)]
    rfl
  · iexact H

/-- The load of the whole input, after the last layer. -/
theorem read_xvAll {Q : (S16x32x256.Idx → Elt F .bf16) → sProp 𝕄} (inb : ∀ a, off a + S16x32x256.size a ≤ S16x32x256.size a) (ho : off = ![0, 0, 0])
    {hl : XV.view.LoadsAt (Rect.unit (s := S16x32x256) off S16x32x256.size inb).toLoadRect}
    (hQ : St I f0 fx c (l + 1) K Y (fun _ => 1) ⊢ Q (XB I (l + 1))) :
    St I f0 fx c (l + 1) K Y (fun _ => 1) ⊢ wpOf c (Prog.lift (.load XV (Rect.unit (s := S16x32x256) off S16x32x256.size inb).toLoadRect hl)) Q := by
  refine step_local I f0 fx K c (l + 1) Y (fun v => v = XB I (l + 1)) Finset.univ (fun _ => 1) (fun _ => 1) (fun s => xvPts c {s} fullShare.left (XB I (l + 1))) (fun s => xvPts c {s} fullShare.left (XB I (l + 1)))
    (fun _ _ => rfl) (fun _ _ _ => rfl) (fun s hs => xv1_keep I f0 fx c l s) ?_ fun v hv => hv ▸ hQ
  rw [← xv_group]
  have h := load_xv (hl := hl) c 0 16 inb Finset.univ ho (fun s => by simp) (Q := Q) fullShare.left (XB I (l + 1))
  iintro H Hk
  iapply h $$ H
  iintro H
  iapply Hk
  · ipureintro
    funext j
    have hj0 : (j 0).val < 16 := (j 0).isLt
    rw [load_XV 0 16 inb ho (XB I (l + 1)) j (by omega)]
    refine congrArg (XB I (l + 1)) (Eq.trans ?_ (eq_at3 j).symm)
    exact congrArg (fun a => at3 a (j 1) (j 2)) (Fin.ext (by show 0 + (j 0).val = (j 0).val; omega))
  · iexact H

/-- The load of the own slot of the sums, which nothing uses. -/
theorem read_xvOwn {Q : (S1x32x256.Idx → Elt F .bf16) → sProp 𝕄} (inb : ∀ a, off a + S1x32x256.size a ≤ S16x32x256.size a) (ho : off = ![c.val, 0, 0])
    {hl : XV.view.LoadsAt (Rect.unit (s := S16x32x256) off S1x32x256.size inb).toLoadRect} (σ : Fin 16 → ℕ) (h5 : σ c = 5)
    (hQ : ∀ v, St I f0 fx c l K Y σ ⊢ Q v) :
    St I f0 fx c l K Y σ ⊢ wpOf c (Prog.lift (.load XV (Rect.unit (s := S16x32x256) off S1x32x256.size inb).toLoadRect hl)) Q := by
  refine step_local I f0 fx K c l Y (fun _ => True) {c} σ σ (fun s => xvPts c {s} (ownShare l) (xvIn I fx l)) (fun s => xvPts c {s} (ownShare l) (xvIn I fx l))
    (fun _ _ => rfl) (fun _ _ _ => rfl) (fun s hs => by
      rw [Finset.mem_singleton] at hs; subst hs; rw [h5, slot_own]
      simp only [own]
      iintro ⟨H1, H2, H3⟩
      iframe H2
      iintro H2
      iframe H1 H2 H3) ?_ fun v _ => hQ v
  rw [← xv_group]
  have h := load_xv (hl := hl) c c.val 1 inb {c} ho (single_mem c) (Q := Q) (ownShare l) (xvIn I fx l)
  iintro H Hk
  iapply h $$ H
  iintro H
  iapply Hk
  · ipureintro; trivial
  · iexact H

theorem others_nonempty : (Finset.univ.erase c : Finset (Fin 16)).Nonempty := by revert c; decide

/-- The lent pieces and the kept share make the whole. -/
theorem lent_join : iprop(xvPts c {c} (ownShare l) (xvIn I fx l) ∗ bigSep (Finset.univ.erase c) fun s => lent I c s l)
    ⊢ (xvPts c {c} fullShare (xvIn I fx l) : sProp 𝕄) := by
  match l with
  | 0 =>
    show iprop(xvPts c {c} fullShare (xvIn I fx 0) ∗ _) ⊢ _
    iintro ⟨H, -⟩; iexact H
  | l + 1 =>
    have e : (bigSep (Finset.univ.erase c) fun s => lent I c s (l + 1) : sProp 𝕄) = xvPts c {c} fullShare.right (XB I (l + 1)) :=
      (Transfers.pointsTo_deal _ (others_nonempty c) _).symm
    rw [e]
    exact halves_full c {c} (XB I (l + 1))
theorem lent_split : (xvPts c {c} fullShare (XB I (l + 1)) : sProp 𝕄)
    ⊢ iprop(xvPts c {c} (ownShare (l + 1)) (XB I (l + 1)) ∗ bigSep (Finset.univ.erase c) fun s => lent I c s (l + 1)) := by
  have e : (bigSep (Finset.univ.erase c) fun s => lent I c s (l + 1) : sProp 𝕄) = xvPts c {c} fullShare.right (XB I (l + 1)) :=
    (Transfers.pointsTo_deal _ (others_nonempty c) _).symm
  rw [e]
  exact full_halves c {c} (XB I (l + 1))

/-- The store of the device's own sum. -/
theorem write_xvOwn {Q : PUnit → sProp 𝕄} (inb : ∀ a, off a + S1x32x256.size a ≤ S16x32x256.size a) (ho : off = ![c.val, 0, 0])
    {w : S1x32x256.Idx → Elt F .bf16} {hx : (XV.access (Rect.unit (s := S16x32x256) off S1x32x256.size inb)).Stores Finset.univ} {hm}
    (hw : w = k0_pay7 (RB I l c)) (hQ : St I f0 fx c l K Y (fun _ => 6) ⊢ Q ⟨⟩) :
    St I f0 fx c l K Y (fun _ => 5) ⊢ wpOf c (Prog.lift (.store XV (Rect.unit (s := S16x32x256) off S1x32x256.size inb) w Finset.univ hx hm)) Q := by
  refine step_local I f0 fx K c l Y (fun _ => True) Finset.univ (fun _ => 5) (fun _ => 6)
    (fun s => if s = c then xvPts c {c} (ownShare l) (xvIn I fx l) else lent I c s l)
    (fun s => if s = c then xvPts c {c} (ownShare (l + 1)) (XB I (l + 1)) else lent I c s (l + 1))
    (fun s hs => absurd (Finset.mem_univ s) hs) (fun s hs hc => rfl) (fun s hs => by
      by_cases h : s = c
      · subst h; rw [slot_own, slot_own, if_pos rfl, if_pos rfl]
        simp only [own]
        iintro ⟨H1, H2, H3⟩
        iframe H2
        iintro H2
        iframe H1 H2 H3
      · rw [slot_peer I f0 fx c s l h, slot_peer I f0 fx c s l h, if_neg h, if_neg h]
        show peer5 I c s l ⊢ iprop(_ ∗ (_ -∗ peer6 I c s l))
        unfold peer5 peer6
        iintro ⟨H1, H2, H3, H4, H5, H6, H7, H8, H9, H10, H11⟩
        icases H4 with ⟨H4, HL⟩
        iframe HL
        iintro HL
        iframe H1 H2 H3 H4 H5 H6 H7 H8 H9 H10 H11 HL) ?_ fun _ _ => hQ
  have e : (bigSep Finset.univ fun s => if s = c then xvPts c {c} (ownShare l) (xvIn I fx l) else lent I c s l : sProp 𝕄)
      = iprop(xvPts c {c} (ownShare l) (xvIn I fx l) ∗ bigSep (Finset.univ.erase c) fun s => lent I c s l) := by
    rw [bigSep_erase (Finset.mem_univ c), if_pos rfl]
    exact congrArg _ (bigSep_congr fun s hs => if_neg (Finset.ne_of_mem_erase hs))
  have e' : (bigSep Finset.univ fun s => if s = c then xvPts c {c} (ownShare (l + 1)) (XB I (l + 1)) else lent I c s (l + 1) : sProp 𝕄)
      = iprop(xvPts c {c} (ownShare (l + 1)) (XB I (l + 1)) ∗ bigSep (Finset.univ.erase c) fun s => lent I c s (l + 1)) := by
    rw [bigSep_erase (Finset.mem_univ c), if_pos rfl]
    exact congrArg _ (bigSep_congr fun s hs => if_neg (Finset.ne_of_mem_erase hs))
  rw [e, e']
  have h := store_xv (hx := hx) (hm := hm) c c.val 1 inb {c} ho (single_mem c) (Q := Q) (xvIn I fx l) (XB I (l + 1)) (w := w) (by
    intro j hj
    have hj0 : (j 0).val < 1 := (j 0).isLt
    have ec : (⟨c.val + (j 0).val, hj⟩ : Fin 16) = c := Fin.ext (by show c.val + (j 0).val = c.val; omega)
    rw [hw, ec]
    refine congrArg (k0_pay7 (RB I l c)) (funext fun a => ?_)
    match a with
    | ⟨0, _⟩ => exact Fin.ext (by show (j 0).val = 0; omega)
    | ⟨1, _⟩ => rfl
    | ⟨2, _⟩ => rfl)
  iintro H Hk
  ihave H := lent_join I fx c l $$ H
  iapply h $$ H
  iintro H
  iapply Hk $$ %PUnit.unit
  · ipureintro; trivial
  · iapply lent_split I c l; iexact H

end Steps

/-! ## The arguments in their staging buffers -/

/-- An operation on something a device holds besides its slots. -/
theorem step_side {β : Type} {op : TpuEff nD τ sig (Elt F) Λ₀ .tc β} {Q : β → sProp 𝕄} (Y' : sProp 𝕄) (σ : Fin 16 → ℕ) (v : β)
    (H : Y ⊢ iprop((Y' -∗ Q v) -∗ wpOf c (Prog.lift op) Q)) (hQ : St I f0 fx c l K Y' σ ⊢ Q v) :
    St I f0 fx c l K Y σ ⊢ wpOf c (Prog.lift op) Q := by
  unfold St at hQ ⊢
  iintro ⟨#Hc, HY, HO, HS⟩
  iapply H $$ HY
  iintro HY
  iapply hQ
  isplitr; · iexact Hc
  iframe HY HO HS

end Cert.MlpProof
-- ==== Proof.Phases.lean ====
/-
# The kernel's loops, one turn at a time

Each lemma is one turn of a loop of the kernel: which slots are at which stage before and after.
-/
module

public import proofs.«01_k».proof.Proof.Local

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (f0 fx : Big F) (K : Dev nD × CI → ℕ) (c : Fin 16) (l : ℕ) (Y : sProp (MT nD τ sig ℕ (Elt F) ℕ UU ℕ))

/-! ## Programs in sequence -/

section Sequence
variable {c} {S : sProp (MT nD τ sig ℕ (Elt F) ℕ UU ℕ)} {α β : Type}

theorem bind_step {p : Prog (TpuEff nD τ sig (Elt F) Λ₀ .tc) α} {k : α → Prog (TpuEff nD τ sig (Elt F) Λ₀ .tc) β} {Q : β → sProp (MT nD τ sig ℕ (Elt F) ℕ UU ℕ)}
    (h : S ⊢ wpOf c p fun a => wpOf c (k a) Q) : S ⊢ wpOf c (p >>= k) Q := by
  unfold wpOf at h ⊢; rw [wp_bind]; exact h

theorem pure_step {v : α} {Q : α → sProp (MT nD τ sig ℕ (Elt F) ℕ UU ℕ)} (h : S ⊢ Q v) : S ⊢ wpOf c (pure v) Q := by
  unfold wpOf
  show S ⊢ wp _ _ _ (Prog.ret v) Q
  rw [wp_ret]
  iintro H; imodintro
  iapply h; iexact H

/-- A conditional operation. -/
theorem cond_step {p : Prop} [Decidable p] {op : p → TpuEff nD τ sig (Elt F) Λ₀ .tc PUnit} {R : Prog (TpuEff nD τ sig (Elt F) Λ₀ .tc) β} {Q : β → sProp (MT nD τ sig ℕ (Elt F) ℕ UU ℕ)}
    (h : ∀ hp, S ⊢ wpOf c (Prog.lift (op hp)) fun _ => wpOf c R Q) (hn : ¬ p → S ⊢ wpOf c R Q) :
    S ⊢ wpOf c (if hp : p then Prog.lift (op hp) >>= fun _ => R else R) Q := by
  by_cases hp : p
  · rw [dif_pos hp]; exact bind_step (h hp)
  · rw [dif_neg hp]; exact hn hp

end Sequence

/-! ## Where the loops stand -/

/-- In the loop over groups: slots below `d` sent, below `4 b` computed, below `a` received. -/
def inGroups (a b d : ℕ) (s : Fin 16) : ℕ := if s.val < d then 3 else if s.val < 4 * b then 2 else if s.val < a then 1 else 0
/-- In a loop over the other devices by distance: those at distance below `k`, in the order `ρ`, are at stage `j`, the others at stage `i`. -/
def inOrder (ρ : Fin 16 → ℕ) (i j k : ℕ) (c s : Fin 16) : ℕ := if ρ (s - c) < k then j else i
/-- The two orders: by distance, and the farthest first. -/
def near (o : Fin 16) : ℕ := o.val
def far : Fin 16 → ℕ := ![0, 14, 12, 10, 8, 6, 4, 2, 1, 3, 5, 7, 9, 11, 13, 15]
/-- The distance at a place in the second order. -/
def farAt : Fin 16 → Fin 16 := ![0, 8, 7, 9, 6, 10, 5, 11, 4, 12, 3, 13, 2, 14, 1, 15]

theorem add_sub_self : ∀ c o : Fin 16, c + o - c = o := by decide +kernel
theorem add_sub_back : ∀ c s : Fin 16, c + (s - c) = s := by decide +kernel
theorem add_none : ∀ c : Fin 16, c + 0 = c := by decide +kernel
theorem away : ∀ c o : Fin 16, o ≠ 0 → c + o ≠ c := by decide +kernel

theorem inOrder_here (ρ : Fin 16 → ℕ) (i j k : ℕ) (o : Fin 16) (ho : ρ o = k) : inOrder ρ i j k c (c + o) = i ∧ inOrder ρ i j (k + 1) c (c + o) = j := by
  unfold inOrder
  rw [add_sub_self, ho, if_neg (lt_irrefl _), if_pos (Nat.lt_succ_self _)]
  exact ⟨rfl, rfl⟩
theorem inOrder_other (ρ : Fin 16 → ℕ) (i j k : ℕ) (o : Fin 16) (ho : ∀ o', ρ o' = k → o' = o) (s : Fin 16) (hs : s ≠ c + o) :
    inOrder ρ i j (k + 1) c s = inOrder ρ i j k c s := by
  unfold inOrder
  have h : ρ (s - c) ≠ k := fun e => hs ((add_sub_back c s).symm.trans (congrArg (c + ·) (ho _ e)))
  by_cases h1 : ρ (s - c) < k
  · rw [if_pos h1, if_pos (by omega)]
  · rw [if_neg h1, if_neg (by omega)]

theorem near_inj (k : ℕ) (hk : k < 16) : ∀ o', near o' = k → o' = ⟨k, hk⟩ := fun o' h => Fin.ext h
theorem far_at : ∀ k : Fin 16, far (farAt k) = k.val ∧ ∀ o', far o' = k.val → o' = farAt k := by decide

/-! ## The loops over groups -/

section Groups
variable {β : Type} {p : Prop} [Decidable p] {R : Prog (TpuEff nD τ sig (Elt F) Λ₀ .tc) β} {Q : β → sProp (MT nD τ sig ℕ (Elt F) ℕ UU ℕ)}

theorem groups_sent (a b d : ℕ) (hd : d < 16) (hb : d < 4 * b) : inGroups a b d ⟨d, hd⟩ = 2 ∧ inGroups a b (d + 1) ⟨d, hd⟩ = 3
    ∧ ∀ s, s ≠ ⟨d, hd⟩ → inGroups a b (d + 1) s = inGroups a b d s := by
  unfold inGroups
  refine ⟨by simp [hb], by simp, fun s hs => ?_⟩
  have h : s.val ≠ d := fun e => hs (Fin.ext e)
  by_cases h1 : s.val < d
  · rw [if_pos h1, if_pos (by omega)]
  · rw [if_neg h1, if_neg (by omega)]
theorem groups_got (a b d : ℕ) (ha : a < 16) (hb : 4 * b ≤ a) (hd : d ≤ 4 * b) : inGroups a b d ⟨a, ha⟩ = 0 ∧ inGroups (a + 1) b d ⟨a, ha⟩ = 1
    ∧ ∀ s, s ≠ ⟨a, ha⟩ → inGroups (a + 1) b d s = inGroups a b d s := by
  unfold inGroups
  refine ⟨by rw [if_neg, if_neg, if_neg] <;> simp <;> omega, by rw [if_neg, if_neg, if_pos] <;> simp <;> omega, fun s hs => ?_⟩
  have h : s.val ≠ a := fun e => hs (Fin.ext e)
  by_cases h1 : s.val < a
  · rw [if_pos h1, if_pos (show s.val < a + 1 by omega)]
  · rw [if_neg h1, if_neg (show ¬ s.val < a + 1 by omega)]

/-- A slot of results sent, if it is not the device's own. -/
theorem send_turn (a b d : ℕ) {n : p → Dev nD} {offs offd : p → Fin 3 → ℕ} {off1 off2 : p → Fin 1 → ℕ}
    {hs : ∀ hp a, offs hp a + S1x32x256.size a ≤ S16x32x256.size a} {hd : ∀ hp a, offd hp a + S1x32x256.size a ≤ S16x32x256.size a}
    {h1 : ∀ hp a, off1 hp a + S1.size a ≤ S16.size a} {h2 : ∀ hp a, off2 hp a + S1.size a ≤ S16.size a}
    {hb1 : 8 + S16.numel ≤ 72} {hb2 : 24 + S16.numel ≤ 72}
    {hsc : ∀ hp, (slotMem RS (offd hp) (hd hp)).view.ref.isScScratch = false}
    {w1 : ∀ hp, (slotMem PT (offs hp) (hs hp)).view.WordExact} {w2 : ∀ hp, (slotMem RS (offd hp) (hd hp)).view.WordExact}
    {hsem : ∀ h, DmaTarget.Typed .vmem (.dma (((SemArray.consecutive (n := 72) 24 S16 hb2).slice (Rect.unit (s := S16) (off2 h) S1.size (h2 h))).squeeze S_ squeezes_S1_S_).sem)
      (.remote (Dev.tc (n h) : Thread nD τ) (slotMem RS (offd h) (hd h))
        (.dma (((SemArray.consecutive (n := 72) 8 S16 hb1).slice (Rect.unit (s := S16) (off1 h) S1.size (h1 h))).squeeze S_ squeezes_S1_S_).sem) (hsc h))}
    (hl : l < 3) (hd16 : d < 16) (hb : d < 4 * b) (hp : p ↔ (⟨d, hd16⟩ : Fin 16) ≠ c)
    (hn : ∀ h, n h = (⟨d, hd16⟩ : Fin 16)) (hos : ∀ h, offs h = ![d, 0, 0]) (hod : ∀ h, offd h = ![c.val, 0, 0])
    (ho1 : ∀ h, off1 h = ![d]) (ho2 : ∀ h, off2 h = ![c.val])
    (hQ : St I f0 fx c l K Y (inGroups a b (d + 1)) ⊢ wpOf c R Q) :
    St I f0 fx c l K Y (inGroups a b d) ⊢ wpOf c (if h : p then
      Prog.lift (.enqueueDma (slotMem PT (offs h) (hs h)) (.remote (Dev.tc (n h) : Thread nD τ) (slotMem RS (offd h) (hd h))
        (.dma (((SemArray.consecutive (n := 72) 8 S16 hb1).slice (Rect.unit (s := S16) (off1 h) S1.size (h1 h))).squeeze S_ squeezes_S1_S_).sem) (hsc h))
        (.dma (((SemArray.consecutive (n := 72) 24 S16 hb2).slice (Rect.unit (s := S16) (off2 h) S1.size (h2 h))).squeeze S_ squeezes_S1_S_).sem) (w1 h) (w2 h) (hsem h))
        >>= fun _ => R else R) Q := by
  obtain ⟨g1, g2, g3⟩ := groups_sent a b d hd16 hb
  refine cond_step (fun h => ?_) fun h => ?_
  · exact send_res I f0 fx K c l Y _ _ ⟨d, hd16⟩ (hp.mp h) hl (hos h) (hod h) (sem_at 0 ⟨d, hd16⟩ 8 rfl _ (ho1 h) _) (sem_at 1 c 24 rfl _ (ho2 h) _) (hn h) _ _ g1 g2 g3 hQ
  · have hc : (⟨d, hd16⟩ : Fin 16) = c := not_not.mp fun e => h (hp.mpr e)
    refine BI.Entails.trans ?_ hQ
    refine st_own I f0 fx K c l Y _ _ (hc ▸ g3) ?_
    rw [← hc, g1, g2]; exact BI.Entails.refl _

/-- A slot of the input received, if it is not the device's own. -/
theorem get_turn (a b d : ℕ) {off1 : p → Fin 1 → ℕ} {h1 : ∀ hp a, off1 hp a + S1.size a ≤ S16.size a} {hb1 : 56 + S16.numel ≤ 72}
    {ms md : Space} {ss sd : Shape} {es ed : EltTy} {src : p → Memref sig .tc ms ss es} {dst : p → Memref sig .tc md sd ed}
    {w1 : ∀ h, (src h).view.WordExact} {w2 : ∀ h, (dst h).view.WordExact}
    (hl : l < 3) (ha : a < 16) (hb : 4 * b ≤ a) (hd : d ≤ 4 * b) (hall : l + 1 < 3 ∨ b = 0 ∧ d = 0) (hp : p ↔ (⟨a, ha⟩ : Fin 16) ≠ c)
    (ho1 : ∀ h, off1 h = ![a]) (hN : ∀ h, (dst h).view.dmaCredit = N)
    (hQ : St I f0 fx c (l + 1) K Y (inGroups (a + 1) b d) ⊢ wpOf c R Q) :
    St I f0 fx c (l + 1) K Y (inGroups a b d) ⊢ wpOf c (if h : p then
      Prog.lift (.waitDma2 (((SemArray.consecutive (n := 72) 56 S16 hb1).slice (Rect.unit (s := S16) (off1 h) S1.size (h1 h))).squeeze S_ squeezes_S1_S_).sem
        (src h) (dst h) (w1 h) (w2 h)) >>= fun _ => R else R) Q := by
  obtain ⟨g1, g2, g3⟩ := groups_got a b d ha hb hd
  refine cond_step (fun h => ?_) fun h => ?_
  · refine wait_sum I f0 fx K c l Y ⟨a, ha⟩ (hp.mp h) hl (sem_at 3 ⟨a, ha⟩ 56 rfl _ (ho1 h) _) (hN h) _ _ g1 g2 g3 (hall.imp id fun hh s _ => ?_) hQ
    unfold inGroups
    rw [hh.1, hh.2]
    rw [if_neg (Nat.not_lt_zero _), if_neg (Nat.not_lt_zero _)]
    split <;> omega
  · have hc : (⟨a, ha⟩ : Fin 16) = c := not_not.mp fun e => h (hp.mpr e)
    refine BI.Entails.trans ?_ hQ
    refine st_own I f0 fx K c (l + 1) Y _ _ (hc ▸ g3) ?_
    rw [← hc, g1, g2]; exact BI.Entails.refl _

end Groups

/-! ## The loops over the other devices -/

section Order
variable {ms md : Space} {ss sd : Shape} {es ed : EltTy} {src : Memref sig .tc ms ss es} {dst : Memref sig .tc md sd ed}
  {w1 : src.view.WordExact} {w2 : dst.view.WordExact} {Q : PUnit → sProp (MT nD τ sig ℕ (Elt F) ℕ UU ℕ)}
  {off1 : Fin 1 → ℕ} {h1 : ∀ a, off1 a + S1.size a ≤ S16.size a}

theorem inOrder_ge (ρ : Fin 16 → ℕ) (i j k b : ℕ) (hi : b ≤ i) (hj : b ≤ j) (s : Fin 16) : b ≤ inOrder ρ i j k c s := by
  unfold inOrder; split <;> assumption

/-- The results of the device at distance `k` received. -/
theorem res_turn {hb1 : 24 + S16.numel ≤ 72} (k : ℕ) (hl : l < 3) (hk : k < 16) (hk0 : 0 < k) (ho1 : off1 = ![(c + (⟨k, hk⟩ : Fin 16)).val]) (hN : dst.view.dmaCredit = N)
    (hQ : St I f0 fx c l K Y (inOrder near 3 4 (k + 1) c) ⊢ Q ⟨⟩) :
    St I f0 fx c l K Y (inOrder near 3 4 k c) ⊢ wpOf c (Prog.lift (.waitDma2
      (((SemArray.consecutive (n := 72) 24 S16 hb1).slice (Rect.unit (s := S16) off1 S1.size h1)).squeeze S_ squeezes_S1_S_).sem src dst w1 w2)) Q :=
  wait_res I f0 fx K c l Y (c + (⟨k, hk⟩ : Fin 16)) (away c _ fun e => hk0.ne' (congrArg Fin.val e)) hl (sem_at 1 _ 24 rfl _ ho1 _) hN _ _
    (inOrder_here c near 3 4 k ⟨k, hk⟩ rfl).1 (inOrder_here c near 3 4 k ⟨k, hk⟩ rfl).2 (inOrder_other c near 3 4 k ⟨k, hk⟩ (near_inj k hk)) (fun s _ => inOrder_ge c near 3 4 k 3 (le_refl _) (by omega) s) hQ

/-- The previous sum has reached the device at distance `k`. -/
theorem sentSum_turn {hb1 : 40 + S16.numel ≤ 72} (k : ℕ) (hl : l + 1 < 3) (hk : k < 16) (hk0 : 0 < k) (ho1 : off1 = ![(c + (⟨k, hk⟩ : Fin 16)).val]) (hN : dst.view.dmaCredit = N)
    (hQ : St I f0 fx c (l + 1) K Y (inOrder near 4 5 (k + 1) c) ⊢ Q ⟨⟩) :
    St I f0 fx c (l + 1) K Y (inOrder near 4 5 k c) ⊢ wpOf c (Prog.lift (.waitDma2
      (((SemArray.consecutive (n := 72) 40 S16 hb1).slice (Rect.unit (s := S16) off1 S1.size h1)).squeeze S_ squeezes_S1_S_).sem src dst w1 w2)) Q :=
  wait_sentSum I f0 fx K c l Y (c + (⟨k, hk⟩ : Fin 16)) (away c _ fun e => hk0.ne' (congrArg Fin.val e)) hl (sem_at 2 _ 40 rfl _ ho1 _) hN _ _
    (inOrder_here c near 4 5 k ⟨k, hk⟩ rfl).1 (inOrder_here c near 4 5 k ⟨k, hk⟩ rfl).2 (inOrder_other c near 4 5 k ⟨k, hk⟩ (near_inj k hk)) hQ

/-- The results have reached the device at distance `k`. -/
theorem sentRes_turn {hb1 : 8 + S16.numel ≤ 72} (k : ℕ) (hl : l < 3) (hk : k < 16) (hk0 : 0 < k) (ho1 : off1 = ![(c + (⟨k, hk⟩ : Fin 16)).val]) (hN : dst.view.dmaCredit = N)
    (hQ : St I f0 fx c l K Y (inOrder near 7 8 (k + 1) c) ⊢ Q ⟨⟩) :
    St I f0 fx c l K Y (inOrder near 7 8 k c) ⊢ wpOf c (Prog.lift (.waitDma2
      (((SemArray.consecutive (n := 72) 8 S16 hb1).slice (Rect.unit (s := S16) off1 S1.size h1)).squeeze S_ squeezes_S1_S_).sem src dst w1 w2)) Q :=
  wait_sentRes I f0 fx K c l Y (c + (⟨k, hk⟩ : Fin 16)) (away c _ fun e => hk0.ne' (congrArg Fin.val e)) hl (sem_at 0 _ 8 rfl _ ho1 _) hN _ _
    (inOrder_here c near 7 8 k ⟨k, hk⟩ rfl).1 (inOrder_here c near 7 8 k ⟨k, hk⟩ rfl).2 (inOrder_other c near 7 8 k ⟨k, hk⟩ (near_inj k hk)) hQ

/-- The last sum has reached the device at distance `k`. -/
theorem sentLast_turn {hb1 : 40 + S16.numel ≤ 72} (k : ℕ) (hk : k < 16) (hk0 : 0 < k) (ho1 : off1 = ![(c + (⟨k, hk⟩ : Fin 16)).val]) (hN : dst.view.dmaCredit = N)
    (hQ : St I f0 fx c 3 K Y (inOrder near 1 9 (k + 1) c) ⊢ Q ⟨⟩) :
    St I f0 fx c 3 K Y (inOrder near 1 9 k c) ⊢ wpOf c (Prog.lift (.waitDma2
      (((SemArray.consecutive (n := 72) 40 S16 hb1).slice (Rect.unit (s := S16) off1 S1.size h1)).squeeze S_ squeezes_S1_S_).sem src dst w1 w2)) Q :=
  wait_sentLast I f0 fx K c Y (c + (⟨k, hk⟩ : Fin 16)) (away c _ fun e => hk0.ne' (congrArg Fin.val e)) (sem_at 2 _ 40 rfl _ ho1 _) hN _ _
    (inOrder_here c near 1 9 k ⟨k, hk⟩ rfl).1 (inOrder_here c near 1 9 k ⟨k, hk⟩ rfl).2 (inOrder_other c near 1 9 k ⟨k, hk⟩ (near_inj k hk)) (fun s _ => by unfold inOrder; split <;> omega) hQ

/-- The last sum of the device at distance `k` received. -/
theorem lastGot_turn {hb1 : 56 + S16.numel ≤ 72} (k : ℕ) (hk : k < 16) (hk0 : 0 < k) (ho1 : off1 = ![(c + (⟨k, hk⟩ : Fin 16)).val]) (hN : dst.view.dmaCredit = N)
    (hQ : St I f0 fx c 3 K Y (inOrder near 0 1 (k + 1) c) ⊢ Q ⟨⟩) :
    St I f0 fx c 3 K Y (inOrder near 0 1 k c) ⊢ wpOf c (Prog.lift (.waitDma2
      (((SemArray.consecutive (n := 72) 56 S16 hb1).slice (Rect.unit (s := S16) off1 S1.size h1)).squeeze S_ squeezes_S1_S_).sem src dst w1 w2)) Q :=
  wait_sum I f0 fx K c 2 Y (c + (⟨k, hk⟩ : Fin 16)) (away c _ fun e => hk0.ne' (congrArg Fin.val e)) (by decide) (sem_at 3 _ 56 rfl _ ho1 _) hN _ _
    (inOrder_here c near 0 1 k ⟨k, hk⟩ rfl).1 (inOrder_here c near 0 1 k ⟨k, hk⟩ rfl).2 (inOrder_other c near 0 1 k ⟨k, hk⟩ (near_inj k hk))
    (Or.inr fun s _ => by unfold inOrder; split <;> omega) hQ

/-- The sum sent to the device at place `k` of the order. -/
theorem sum_turn {hb1 : 40 + S16.numel ≤ 72} {hb2 : 56 + S16.numel ≤ 72} (k : ℕ) {n : Dev nD} {offs offd : Fin 3 → ℕ} {off2 : Fin 1 → ℕ} {h2 : ∀ a, off2 a + S1.size a ≤ S16.size a}
    {hs : ∀ a, offs a + S1x32x256.size a ≤ S16x32x256.size a} {hd : ∀ a, offd a + S1x32x256.size a ≤ S16x32x256.size a}
    {hsc : (slotMem XV offd hd).view.ref.isScScratch = false} {x1 : (slotMem XV offs hs).view.WordExact} {x2 : (slotMem XV offd hd).view.WordExact} {hsem}
    (hl : l < 3) (hk : k < 16) (hk0 : 0 < k) (hn : n = c + farAt ⟨k, hk⟩) (hos : offs = ![c.val, 0, 0]) (hod : offd = ![c.val, 0, 0])
    (ho1 : off1 = ![(c + farAt ⟨k, hk⟩).val]) (ho2 : off2 = ![c.val])
    (hQ : St I f0 fx c l K Y (inOrder far 6 7 (k + 1) c) ⊢ Q ⟨⟩) :
    St I f0 fx c l K Y (inOrder far 6 7 k c) ⊢ wpOf c (Prog.lift (.enqueueDma (slotMem XV offs hs) (.remote (Dev.tc n : Thread nD τ) (slotMem XV offd hd)
        (.dma (((SemArray.consecutive (n := 72) 40 S16 hb1).slice (Rect.unit (s := S16) off1 S1.size h1)).squeeze S_ squeezes_S1_S_).sem) hsc)
        (.dma (((SemArray.consecutive (n := 72) 56 S16 hb2).slice (Rect.unit (s := S16) off2 S1.size h2)).squeeze S_ squeezes_S1_S_).sem) x1 x2 hsem)) Q :=
  send_sum I f0 fx K c l Y _ _ (c + farAt ⟨k, hk⟩) (away c _ fun e => by
      have h := (far_at ⟨k, hk⟩).1
      rw [e] at h
      exact hk0.ne h) hl hos hod (sem_at 2 _ 40 rfl _ ho1 _) (sem_at 3 c 56 rfl _ ho2 _) hn _ _
    (inOrder_here c far 6 7 k _ (far_at ⟨k, hk⟩).1).1 (inOrder_here c far 6 7 k _ (far_at ⟨k, hk⟩).1).2 (inOrder_other c far 6 7 k _ (far_at ⟨k, hk⟩).2) hQ

end Order

/-! ## Between the loops -/

theorem inGroups_start : inGroups 0 0 0 = fun _ => 0 := funext fun s => by simp [inGroups]
theorem inGroups_first : inGroups 16 0 0 = fun _ => 1 := funext fun s => by revert s; decide
theorem inGroups_end : inGroups 16 4 16 = fun _ => 3 := funext fun s => by revert s; decide
theorem inOrder_end (ρ : Fin 16 → ℕ) (hρ : ∀ s, ρ s < 16) (i j : ℕ) : inOrder ρ i j 16 c = fun _ => j := funext fun s => if_pos (hρ _)
theorem inOrder_start (ρ : Fin 16 → ℕ) (i j : ℕ) : inOrder ρ i j 0 c = fun _ => i := funext fun s => if_neg (Nat.not_lt_zero _)

/-- The device's own slot goes first. -/
theorem own_first (ρ : Fin 16 → ℕ) (h0 : ρ 0 = 0) (hρ : ∀ o, ρ o = 0 → o = 0) (i j : ℕ) (h : own I f0 fx c l i ⊢ own I f0 fx c l j) :
    St I f0 fx c l K Y (fun _ => i) ⊢ St I f0 fx c l K Y (inOrder ρ i j 1 c) := by
  have h1 := inOrder_here c ρ i j 0 0 h0
  have h2 := inOrder_other c ρ i j 0 0 hρ
  rw [add_none] at h1 h2
  rw [← inOrder_start c ρ i j]
  refine st_own I f0 fx K c l Y _ _ h2 ?_
  rw [h1.1, h1.2]; exact h

theorem groups_done {R : sProp (MT nD τ sig ℕ (Elt F) ℕ UU ℕ)} (h : St I f0 fx c l K Y (fun _ => 3) ⊢ R) : St I f0 fx c l K Y (inGroups 16 4 16) ⊢ R :=
  inGroups_end ▸ h
theorem groups_open {R : sProp (MT nD τ sig ℕ (Elt F) ℕ UU ℕ)} (h : St I f0 fx c l K Y (inGroups 0 0 0) ⊢ R) : St I f0 fx c l K Y (fun _ => 0) ⊢ R :=
  inGroups_start ▸ h
theorem near_done {i j : ℕ} {R : sProp (MT nD τ sig ℕ (Elt F) ℕ UU ℕ)} (h : St I f0 fx c l K Y (fun _ => j) ⊢ R) : St I f0 fx c l K Y (inOrder near i j 16 c) ⊢ R :=
  inOrder_end c near (fun s => s.isLt) i j ▸ h
theorem far_done {i j : ℕ} {R : sProp (MT nD τ sig ℕ (Elt F) ℕ UU ℕ)} (h : St I f0 fx c l K Y (fun _ => j) ⊢ R) : St I f0 fx c l K Y (inOrder far i j 16 c) ⊢ R :=
  inOrder_end c far (by decide) i j ▸ h
theorem first_01 : St I f0 fx c l K Y (fun _ => 0) ⊢ St I f0 fx c l K Y (inOrder near 0 1 1 c) :=
  own_first I f0 fx K c l Y near rfl (by decide) 0 1 (BI.Entails.refl _)
theorem first_45 : St I f0 fx c l K Y (fun _ => 4) ⊢ St I f0 fx c l K Y (inOrder near 4 5 1 c) :=
  own_first I f0 fx K c l Y near rfl (by decide) 4 5 (BI.Entails.refl _)
theorem first_67 : St I f0 fx c l K Y (fun _ => 6) ⊢ St I f0 fx c l K Y (inOrder far 6 7 1 c) :=
  own_first I f0 fx K c l Y far rfl (by decide) 6 7 (BI.Entails.refl _)
theorem first_78 : St I f0 fx c l K Y (fun _ => 7) ⊢ St I f0 fx c l K Y (inOrder near 7 8 1 c) :=
  own_first I f0 fx K c l Y near rfl (by decide) 7 8 (own_7_8 I f0 fx c l)
theorem first_19 : St I f0 fx c l K Y (fun _ => 1) ⊢ St I f0 fx c l K Y (inOrder near 1 9 1 c) :=
  own_first I f0 fx K c l Y near rfl (by decide) 1 9 (BI.Entails.refl _)

/-! ## The accesses between the loops -/

section Accesses
variable {off : Fin 3 → ℕ}

/-- A group's results stored. -/
theorem compute_turn {Q : PUnit → sProp (MT nD τ sig ℕ (Elt F) ℕ UU ℕ)} (a b : ℕ) (hb : b < 4) (ha : 4 * b + 4 ≤ a) (inb : ∀ a, off a + S4x32x256.size a ≤ S16x32x256.size a) (ho : off = ![4 * b, 0, 0])
    {w : S4x32x256.Idx → Elt F .bf16} {hx : (PT.access (Rect.unit (s := S16x32x256) off S4x32x256.size inb)).Stores Finset.univ} {hm}
    (hw : w = grpOut I c l (XB I l) ⟨b, hb⟩) (d : ℕ) (hd : d = 4 * b)
    (hQ : St I f0 fx c l K Y (inGroups a (b + 1) d) ⊢ Q ⟨⟩) :
    St I f0 fx c l K Y (inGroups a b d) ⊢ wpOf c (Prog.lift (.store PT (Rect.unit (s := S16x32x256) off S4x32x256.size inb) w Finset.univ hx hm)) Q := by
  have hm' (s : Fin 16) : s ∈ grp ⟨b, hb⟩ ↔ 4 * b ≤ s.val ∧ s.val < 4 * b + 4 := mem_grp ⟨b, hb⟩ s
  refine write_pt I f0 fx K c l Y ⟨b, hb⟩ inb ho hw _ _ (fun s hs => ?_) (fun s hs => ?_) (fun s hs => ?_) hQ <;> rw [hm'] at hs <;> unfold inGroups <;> subst hd
  · rw [if_neg (by omega), if_neg (by omega), if_pos (by omega)]
  · rw [if_neg (by omega), if_pos (by omega)]
  · by_cases h : s.val < 4 * b
    · rw [if_pos h, if_pos h]
    · rw [if_neg h, if_neg h, if_neg h, if_neg (by omega)]

theorem groups_ready (a b d : ℕ) (hb : b < 4) (ha : 4 * b + 4 ≤ a) (hd : d = 4 * b) (s : Fin 16) (hs : s ∈ grp ⟨b, hb⟩) : inGroups a b d s = 1 := by
  have hm' : s ∈ grp ⟨b, hb⟩ ↔ 4 * b ≤ s.val ∧ s.val < 4 * b + 4 := mem_grp ⟨b, hb⟩ s
  rw [hm'] at hs
  unfold inGroups
  rw [if_neg (by omega), if_neg (by omega), if_pos (by omega)]

/-- The device's own part stored among the collected results. -/
theorem keep_turn {Q : PUnit → sProp (MT nD τ sig ℕ (Elt F) ℕ UU ℕ)} (inb : ∀ a, off a + S1x32x256.size a ≤ S16x32x256.size a) (ho : off = ![c.val, 0, 0])
    {w : S1x32x256.Idx → Elt F .bf16} {hx : (RS.access (Rect.unit (s := S16x32x256) off S1x32x256.size inb)).Stores Finset.univ} {hm}
    (hw : ∀ j, w j = PB I l c (at3 c (j 1) (j 2))) (hQ : St I f0 fx c l K Y (inOrder near 3 4 1 c) ⊢ Q ⟨⟩) :
    St I f0 fx c l K Y (fun _ => 3) ⊢ wpOf c (Prog.lift (.store RS (Rect.unit (s := S16x32x256) off S1x32x256.size inb) w Finset.univ hx hm)) Q := by
  have h1 := inOrder_here c near 3 4 0 0 rfl
  have h2 := inOrder_other c near 3 4 0 0 (by decide)
  rw [add_none] at h1 h2
  rw [← inOrder_start c near 3 4]
  exact write_rsOwn I f0 fx K c l Y inb ho hw _ _ h1.1 h1.2 h2 hQ

end Accesses

end Cert.MlpProof
-- ==== Proof.Args.lean ====
/-
# The arguments

What a device holds besides its slots: the input, the weights and the output in their staging buffers, and the cells it never uses.
-/
module

public import proofs.«01_k».proof.Proof.Phases

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (f0 fx : Big F) (K : Dev nD × CI → ℕ) (c : Fin 16) (l : ℕ)

/-- A whole buffer of device `c`. -/
def argPts (b : Ref sig .tc) (X : b.ty.Contents (Elt F)) : sProp (MT nD τ sig ℕ (Elt F) ℕ UU ℕ) := (((c : Dev nD) : Thread nD τ).loc b) ↦{fullShare} X

/-- The weights of the three layers. -/
def weights : sProp 𝕄 := iprop(argPts c cc0_stg1_0 (I.wi 0 c) ∗ argPts c cc0_stg2_0 (I.wo 0 c) ∗ argPts c cc0_stg3_0 (I.wi 1 c)
  ∗ argPts c cc0_stg4_0 (I.wo 1 c) ∗ argPts c cc0_stg5_0 (I.wi 2 c) ∗ argPts c cc0_stg6_0 (I.wo 2 c))
/-- The device's own cells, of which it uses only the barrier's. -/
def idle : sProp 𝕄 := iprop(atPos ER (barCell c) 1 ∅ 0 ∗ bigSep Finset.univ fun k : Fin 4 => atPos ER (cell k c c) 0 ∅ 0)
/-- All of it, the output holding what `O` says. -/
def side (O : sProp (MT nD τ sig ℕ (Elt F) ℕ UU ℕ)) : sProp (MT nD τ sig ℕ (Elt F) ℕ UU ℕ) := iprop(argPts c cc0_stg0_0 (I.x c) ∗ weights I c ∗ O ∗ idle c)

section Read
variable (Y : sProp (MT nD τ sig ℕ (Elt F) ℕ UU ℕ))

/-- A load of a buffer a device holds. -/
theorem read_arg {cs : CoreSpace} {sh : Shape} {e : EltTy} {m : Memref sig .tc cs sh e} {r : Rect sh} {Q : (r.toLoadRect.shape.Idx → Elt F e) → sProp (MT nD τ sig ℕ (Elt F) ℕ UU ℕ)}
    {hl : m.view.LoadsAt r.toLoadRect} {X : Buf (Elt F) (m.view.loc ((c : Dev nD) : Thread nD τ))} (v : r.toLoadRect.shape.Idx → Elt F e)
    (hY : Y ⊢ iprop((m.view.loc ((c : Dev nD) : Thread nD τ) ↦{fullShare} X) ∗ ((m.view.loc ((c : Dev nD) : Thread nD τ) ↦{fullShare} X) -∗ Y)))
    (hv : m.view.readAt (Elt F) r.toLoadRect X = v) (σ : Fin 16 → ℕ) (hQ : St I f0 fx c l K Y σ ⊢ Q v) :
    St I f0 fx c l K Y σ ⊢ wpOf c (Prog.lift (.load m r.toLoadRect hl)) Q := by
  refine step_side I f0 fx K c l Y Y σ v ?_ hQ
  unfold wpOf Prog.lift
  iintro HY Hk
  ihave HY := hY $$ HY
  icases HY with ⟨H, HY⟩
  iapply (wp_load 𝒱₀ (c : Thread nD τ) none Set.univ (m := m) (Finset.subset_univ _)) $$ H
  iintro H
  rw [wp_ret, hv]; imodintro
  iapply Hk
  iapply HY; iexact H

end Read

variable (O : sProp (MT nD τ sig ℕ (Elt F) ℕ UU ℕ))

/-- Each argument can be taken out and put back. -/
theorem side_x : side I c O ⊢ iprop(argPts c cc0_stg0_0 (I.x c) ∗ (argPts c cc0_stg0_0 (I.x c) -∗ side I c O)) := by
  unfold side
  iintro ⟨H, H2⟩; iframe H; iintro H; iframe H H2
theorem side_1 : side I c O ⊢ iprop(argPts c cc0_stg1_0 (I.wi 0 c) ∗ (argPts c cc0_stg1_0 (I.wi 0 c) -∗ side I c O)) := by
  unfold side weights
  iintro ⟨H0, ⟨H1, H2, H3, H4, H5, H6⟩, H7⟩; iframe H1; iintro H1; iframe H0 H1 H2 H3 H4 H5 H6 H7
theorem side_2 : side I c O ⊢ iprop(argPts c cc0_stg2_0 (I.wo 0 c) ∗ (argPts c cc0_stg2_0 (I.wo 0 c) -∗ side I c O)) := by
  unfold side weights
  iintro ⟨H0, ⟨H1, H2, H3, H4, H5, H6⟩, H7⟩; iframe H2; iintro H2; iframe H0 H1 H2 H3 H4 H5 H6 H7
theorem side_3 : side I c O ⊢ iprop(argPts c cc0_stg3_0 (I.wi 1 c) ∗ (argPts c cc0_stg3_0 (I.wi 1 c) -∗ side I c O)) := by
  unfold side weights
  iintro ⟨H0, ⟨H1, H2, H3, H4, H5, H6⟩, H7⟩; iframe H3; iintro H3; iframe H0 H1 H2 H3 H4 H5 H6 H7
theorem side_4 : side I c O ⊢ iprop(argPts c cc0_stg4_0 (I.wo 1 c) ∗ (argPts c cc0_stg4_0 (I.wo 1 c) -∗ side I c O)) := by
  unfold side weights
  iintro ⟨H0, ⟨H1, H2, H3, H4, H5, H6⟩, H7⟩; iframe H4; iintro H4; iframe H0 H1 H2 H3 H4 H5 H6 H7
theorem side_5 : side I c O ⊢ iprop(argPts c cc0_stg5_0 (I.wi 2 c) ∗ (argPts c cc0_stg5_0 (I.wi 2 c) -∗ side I c O)) := by
  unfold side weights
  iintro ⟨H0, ⟨H1, H2, H3, H4, H5, H6⟩, H7⟩; iframe H5; iintro H5; iframe H0 H1 H2 H3 H4 H5 H6 H7
theorem side_6 : side I c O ⊢ iprop(argPts c cc0_stg6_0 (I.wo 2 c) ∗ (argPts c cc0_stg6_0 (I.wo 2 c) -∗ side I c O)) := by
  unfold side weights
  iintro ⟨H0, ⟨H1, H2, H3, H4, H5, H6⟩, H7⟩; iframe H6; iintro H6; iframe H0 H1 H2 H3 H4 H5 H6 H7

theorem zero2 : (![0, 0] : Fin 2 → ℕ) = fun _ => 0 := funext fun a => by fin_cases a <;> rfl

/-- A load of a group of the first layer's input. -/
theorem read_tokens (g : Fin 4) {off : Fin 2 → ℕ} (inb : ∀ a, off a + S128x256.size a ≤ S512x256.size a) (ho : off = ![128 * g.val, 0])
    {Q : (S128x256.Idx → Elt F .f32) → sProp (MT nD τ sig ℕ (Elt F) ℕ UU ℕ)}
    {hl : (Memref.whole cc0_stg0_0).view.LoadsAt (Rect.unit (s := S512x256) off S128x256.size inb).toLoadRect} (σ : Fin 16 → ℕ)
    (hQ : St I f0 fx c l K (side I c O) σ ⊢ Q (xrow (I.x c) g)) :
    St I f0 fx c l K (side I c O) σ ⊢ wpOf c (Prog.lift (.load (Memref.whole cc0_stg0_0) (Rect.unit (s := S512x256) off S128x256.size inb).toLoadRect hl)) Q := by
  exact read_arg I f0 fx K c l (side I c O) (m := Memref.whole cc0_stg0_0) (X := I.x c) (r := Rect.unit (s := S512x256) off S128x256.size inb)
    (xrow (I.x c) g) (side_x I c O) (load_x g (I.x c) inb ho) σ hQ

/-- The output, before and after it is stored. -/
def outAny : sProp 𝕄 := iprop(∃ f, argPts c cc0_stg7_0 f)
def outDone : sProp 𝕄 := argPts c cc0_stg7_0 (result I)

/-- The load of the old output, which nothing uses. -/
theorem read_out {off : Fin 2 → ℕ} (inb : ∀ a, off a + S512x256.size a ≤ S512x256.size a)
    {Q : (S512x256.Idx → Elt F .f32) → sProp (MT nD τ sig ℕ (Elt F) ℕ UU ℕ)}
    {hl : (Memref.whole cc0_stg7_0).view.LoadsAt (Rect.unit (s := S512x256) off S512x256.size inb).toLoadRect} (σ : Fin 16 → ℕ)
    (hQ : ∀ v, St I f0 fx c l K (side I c (outAny c)) σ ⊢ Q v) :
    St I f0 fx c l K (side I c (outAny c)) σ ⊢ wpOf c (Prog.lift (.load (Memref.whole cc0_stg7_0) (Rect.unit (s := S512x256) off S512x256.size inb).toLoadRect hl)) Q := by
  unfold St at hQ ⊢
  unfold wpOf Prog.lift side outAny at *
  iintro ⟨#Hc, ⟨H0, H1, ⟨%f, HO⟩, H2⟩, HW, HS⟩
  unfold argPts at *
  iapply (wp_load 𝒱₀ (c : Thread nD τ) none Set.univ (m := Memref.whole cc0_stg7_0) (Finset.subset_univ _)) $$ HO
  iintro HO
  rw [wp_ret]; imodintro
  iapply (hQ _)
  isplitr; · iexact Hc
  iframe H0 H1 H2 HW HS
  iexists f; iexact HO

/-- The store of the output. -/
theorem write_out {off : Fin 2 → ℕ} (inb : ∀ a, off a + S512x256.size a ≤ S512x256.size a) (ho : off = fun _ => 0) {w : S512x256.Idx → Elt F .f32}
    {Q : PUnit → sProp (MT nD τ sig ℕ (Elt F) ℕ UU ℕ)}
    {hx : ((Memref.whole cc0_stg7_0).access (Rect.unit (s := S512x256) off S512x256.size inb)).Stores Finset.univ} {hm} (hw : w = result I) (σ : Fin 16 → ℕ)
    (hQ : St I f0 fx c l K (side I c (outDone I c)) σ ⊢ Q ⟨⟩) :
    St I f0 fx c l K (side I c (outAny c)) σ
      ⊢ wpOf c (Prog.lift (.store (Memref.whole cc0_stg7_0) (Rect.unit (s := S512x256) off S512x256.size inb) w Finset.univ hx hm)) Q := by
  refine step_side I f0 fx K c l _ (side I c (outDone I c)) σ ⟨⟩ ?_ hQ
  unfold wpOf Prog.lift side outAny outDone
  iintro ⟨H0, H1, ⟨%f, HO⟩, H2⟩ Hk
  unfold argPts
  iapply (wp_store 𝒱₀ (c : Thread nD τ) none Set.univ (m := Memref.whole cc0_stg7_0) (r := Rect.unit (s := S512x256) off S512x256.size inb) (Mk := Finset.univ) (Finset.subset_univ _)) $$ HO
  iintro HO
  rw [wp_ret]; imodintro
  iapply Hk
  have e : ((Memref.whole cc0_stg7_0).access (Rect.unit (s := S512x256) off S512x256.size inb)).write (Elt F) f w Finset.univ = result I :=
    (Memref.write_access_unit_zero_univ (Elt F) cc0_stg7_0 ho inb f w).trans hw
  rw [e]
  iframe H0 H1 HO H2

end Cert.MlpProof
-- ==== Proof.Words.lean ====
/-
# Offsets, devices and conditions

What the words the kernel computes are: each is a function of the device and a literal.
-/
module

public import proofs.«01_k».proof.Proof.Args

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The device's number as the kernel computes it. -/
abbrev wordOf (c : Fin 16) : BitVec 32 := Scalar.remsi (Scalar.divsi (Dev.word (c : Dev nD)) 1#32) 16#32

theorem word_toNat : ∀ c : Fin 16, (wordOf c).toNat = c.val := by decide +kernel
theorem word_add_toNat : ∀ c o : Fin 16, (Scalar.remsi (Scalar.addi (wordOf c) (BitVec.ofNat 32 o.val)) 16#32).toNat = (c + o).val := by decide +kernel
theorem dev_toNat : ∀ c o : Fin 16, (Scalar.addi 0#32 (Scalar.muli (Scalar.remsi (Scalar.addi (wordOf c) (BitVec.ofNat 32 o.val)) 16#32) 1#32)).toNat = (c + o).val := by decide +kernel
theorem word_ne_fin : ∀ c o : Fin 16, Scalar.cmpi .ne (Scalar.extui (Scalar.cmpi .ne (wordOf c) (BitVec.ofNat 32 o.val)) : BitVec 32) 0#32 = 1#1 ↔ o ≠ c := by decide +kernel
theorem word_ne (c : Fin 16) (o : ℕ) (ho : o < 16) :
    Scalar.cmpi .ne (Scalar.extui (Scalar.cmpi .ne (wordOf c) (BitVec.ofNat 32 o)) : BitVec 32) 0#32 = 1#1 ↔ (⟨o, ho⟩ : Fin 16) ≠ c := word_ne_fin c ⟨o, ho⟩

/-- Offsets of one number. -/
theorem at_word (c : Fin 16) : ![(wordOf c).toNat] = ![c.val] := by rw [word_toNat]
theorem at_word_add (c : Fin 16) (o : ℕ) (ho : o < 16) : ![(Scalar.remsi (Scalar.addi (wordOf c) (BitVec.ofNat 32 o)) 16#32).toNat] = ![(c + (⟨o, ho⟩ : Fin 16)).val] :=
  congrArg (fun n : ℕ => ![n]) (word_add_toNat c ⟨o, ho⟩)
/-- Offsets of a slot. -/
theorem slot_word (c : Fin 16) : ![(wordOf c).toNat, 0, 0] = ![c.val, 0, 0] := by rw [word_toNat]
/-- Devices. -/
theorem dev_word (c o : Fin 16) {n : ℕ} (h : n < nD) (hn : n = (Scalar.addi 0#32 (Scalar.muli (Scalar.remsi (Scalar.addi (wordOf c) (BitVec.ofNat 32 o.val)) 16#32) 1#32)).toNat) :
    (⟨n, h⟩ : Dev nD) = c + o := Fin.ext (hn.trans (dev_toNat c o))

/-! ## Calls -/

section Calls
variable {c : Fin 16} {S : sProp (MT nD τ sig ℕ (Elt F) ℕ UU ℕ)} {α β : Type}

/-- A program followed by another, the second kept out of sight. -/
theorem call_step {p : Prog (TpuEff nD τ sig (Elt F) Λ₀ .tc) α} {k : α → Prog (TpuEff nD τ sig (Elt F) Λ₀ .tc) β} {Q : β → sProp (MT nD τ sig ℕ (Elt F) ℕ UU ℕ)}
    (h : ∀ Q', (Q' = fun a => wpOf c (k a) Q) → S ⊢ wpOf c p Q') : S ⊢ wpOf c (p >>= k) Q := bind_step (h _ rfl)

end Calls

/-! ## Accesses inside the loop over groups -/

section Groups
variable (I : Inp F) (f0 fx : Big F) (K : Dev nD × CI → ℕ) (c : Fin 16) (l : ℕ) (Y : sProp (MT nD τ sig ℕ (Elt F) ℕ UU ℕ))
variable (a b d : ℕ)

/-- The load of the old results, which nothing uses. -/
theorem old_turn {off : Fin 3 → ℕ} {Q : (S4x32x256.Idx → Elt F .bf16) → sProp (MT nD τ sig ℕ (Elt F) ℕ UU ℕ)} (hb : b < 4) (ha : 4 * b + 4 ≤ a) (hd : d = 4 * b)
    (inb : ∀ a, off a + S4x32x256.size a ≤ S16x32x256.size a) (ho : off = ![4 * b, 0, 0])
    {hl : PT.view.LoadsAt (Rect.unit (s := S16x32x256) off S4x32x256.size inb).toLoadRect} (hQ : ∀ v, St I f0 fx c l K Y (inGroups a b d) ⊢ Q v) :
    St I f0 fx c l K Y (inGroups a b d) ⊢ wpOf c (Prog.lift (.load PT (Rect.unit (s := S16x32x256) off S4x32x256.size inb).toLoadRect hl)) Q :=
  read_pt I f0 fx K c l Y ⟨b, hb⟩ inb ho _ (groups_ready a b d hb ha hd) hQ

/-- The load of a group of the input. -/
theorem input_turn {off : Fin 3 → ℕ} {Q : (S4x32x256.Idx → Elt F .bf16) → sProp (MT nD τ sig ℕ (Elt F) ℕ UU ℕ)} (hb : b < 4) (ha : 4 * b + 4 ≤ a) (hd : d = 4 * b)
    (inb : ∀ a, off a + S4x32x256.size a ≤ S16x32x256.size a) (ho : off = ![4 * b, 0, 0])
    {hl : XV.view.LoadsAt (Rect.unit (s := S16x32x256) off S4x32x256.size inb).toLoadRect} (hQ : St I f0 fx c (l + 1) K Y (inGroups a b d) ⊢ Q (xgrp (XB I (l + 1)) ⟨b, hb⟩)) :
    St I f0 fx c (l + 1) K Y (inGroups a b d) ⊢ wpOf c (Prog.lift (.load XV (Rect.unit (s := S16x32x256) off S4x32x256.size inb).toLoadRect hl)) Q :=
  read_xv I f0 fx K c l Y ⟨b, hb⟩ inb ho _ (groups_ready a b d hb ha hd) hQ

/-- The load of a group of the first layer's input. -/
theorem tokens_turn {off : Fin 2 → ℕ} {O : sProp (MT nD τ sig ℕ (Elt F) ℕ UU ℕ)} {Q : (S128x256.Idx → Elt F .f32) → sProp (MT nD τ sig ℕ (Elt F) ℕ UU ℕ)} (hb : b < 4)
    (inb : ∀ a, off a + S128x256.size a ≤ S512x256.size a) (ho : off = ![128 * b, 0])
    {hl : (Memref.whole cc0_stg0_0).view.LoadsAt (Rect.unit (s := S512x256) off S128x256.size inb).toLoadRect}
    (hQ : St I f0 fx c l K (side I c O) (inGroups a b d) ⊢ Q (xrow (I.x c) ⟨b, hb⟩)) :
    St I f0 fx c l K (side I c O) (inGroups a b d) ⊢ wpOf c (Prog.lift (.load (Memref.whole cc0_stg0_0) (Rect.unit (s := S512x256) off S128x256.size inb).toLoadRect hl)) Q :=
  read_tokens I f0 fx K c l O ⟨b, hb⟩ inb ho _ hQ

end Groups

end Cert.MlpProof
-- ==== Proof.Start.lean ====
/-
# The barrier

Before the first layer every device tells every other that it may write: it hands over the slot of its collected results meant for the other's results.
-/
module

public import proofs.«01_k».proof.Proof.Words

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (f0 fx : Big F) (K : Dev nD × CI → ℕ) (c : Fin 16) (Y : sProp (MT nD τ sig ℕ (Elt F) ℕ UU ℕ))

/-- The devices still to be told, those at distance `k` and up. -/
def pending (c : Fin 16) (k : ℕ) : Finset (Fin 16) := Finset.univ.filter fun s => k ≤ (s - c).val

theorem pending_all (c : Fin 16) : pending c 1 = Finset.univ.erase c := by revert c; decide +kernel
theorem pending_none (c : Fin 16) : pending c 16 = ∅ := by revert c; decide +kernel
theorem pending_mem (c o : Fin 16) : c + o ∈ pending c o.val := Finset.mem_filter.mpr ⟨Finset.mem_univ _, by rw [add_sub_self]⟩
theorem pending_erase (c o : Fin 16) : (pending c o.val).erase (c + o) = pending c (o.val + 1) := by revert c o; decide +kernel

/-- What telling `s` takes. -/
def tell (s : Fin 16) : sProp 𝕄 := iprop(dutyTok ER (barCell s) 0 c ∗ reached ER (barCell s) 0 ∗ ∃ f, rsPts c {s} fullShare f)
/-- What is held for the exchanges with `s` besides. -/
def early (s : Fin 16) : sProp 𝕄 := iprop(ptPts c {s} fullShare f0 ∗ xvPts c {s} fullShare fx ∗ posn (cell 0 s c) 0 ∗ posn (cell 1 s c) 0 ∗ posn (cell 2 s c) 0 ∗ posn (cell 3 s c) 0
  ∗ reached ER (cell 1 c s) 0 ∗ rest c s 0)
/-- Device `c` in the course of the barrier, the devices at distance below `k` told. -/
def Bar (k : ℕ) : sProp 𝕄 := iprop(ctx I K ∗ Y ∗ (∃ W, owes (c : Thread nD τ) (owed c 0 (fun _ => 1) + ∑ s ∈ pending c k, tallyAt (barCell s) 0 1) W)
  ∗ bigSep (pending c k) (fun s => tell c s) ∗ (cred (tallyAt (barCell c) 0 15) ∗ atPos ER (barCell c) 0 ∅ 0)
  ∗ own I f0 fx c 0 1 ∗ bigSep (Finset.univ.erase c) fun s => early f0 fx c s)

/-- The device at distance `k` told. -/
theorem signal_turn {Q : PUnit → sProp 𝕄} {n : Dev nD} (k : ℕ) (hk : k < 16) (hk0 : 0 < k) (hn : n = c + (⟨k, hk⟩ : Fin 16)) (hQ : Bar I f0 fx K c Y (k + 1) ⊢ Q ⟨⟩) :
    Bar I f0 fx K c Y k ⊢ wpOf c (semSignalWord n (SemArray.scalar (sig.barrier 0 rfl) : Sems sig S_).sem 1#32) Q := by
  subst hn
  have hne : c ≠ c + (⟨k, hk⟩ : Fin 16) := (away c _ fun e => hk0.ne' (congrArg Fin.val e)).symm
  have hm : c + (⟨k, hk⟩ : Fin 16) ∈ pending c k := pending_mem c ⟨k, hk⟩
  have he : (pending c k).erase (c + (⟨k, hk⟩ : Fin 16)) = pending c (k + 1) := pending_erase c ⟨k, hk⟩
  generalize c + (⟨k, hk⟩ : Fin 16) = t at hne hm he ⊢
  have hs : (bigSep (pending c k) fun s => (tell c s : sProp 𝕄)) = iprop(tell c t ∗ bigSep (pending c (k + 1)) fun s => tell c s) := by
    rw [← he]; exact bigSep_erase hm
  have hO : owed c 0 (fun _ => 1) + ∑ s ∈ pending c k, (tallyAt (barCell s) 0 1 : CellTallies nD τ sig ℕ)
      = (owed c 0 (fun _ => 1) + ∑ s ∈ pending c (k + 1), tallyAt (barCell s) 0 1) + tallyAt (barCell t) 0 1 := by
    rw [← he, add_assoc, Finset.sum_erase_add _ _ hm]
  unfold Bar at hQ ⊢
  rw [hs, hO]
  unfold wpOf semSignalWord
  iintro ⟨#Hc, HY, ⟨%W, HO⟩, ⟨HT, HP⟩, H1, H2, H3⟩
  unfold tell
  icases HT with ⟨Hd, Hr, Hp⟩
  ihave #HI := (ctx_bar I K t) $$ Hc
  iapply (Rounds.wp_signal 𝒱₀ ER (sched I) (c : Thread nD τ) none (dst := (t : Thread nD τ)) (κ := K (t, none)) (r := 0) (d := c)
      (by rw [duties_bar]; exact Finset.mem_erase.mpr ⟨hne, Finset.mem_univ _⟩) (amount_bar I t c) 0 _ rfl) $$ [HO Hd Hr Hp]
  · isplitr; · iexact HI
    isplitl [HO]; · iexact HO
    isplitl [Hd]; · iexact Hd
    isplitl [Hp]; · rw [payload_bar]; unfold barPay; iexact Hp
    iexact Hr
  iintro HO
  rw [wp_ret]; imodintro
  iapply hQ
  isplitr; · iexact Hc
  isplitl [HY]; · iexact HY
  isplitl [HO]; · iexists W; iexact HO
  isplitl [HP]; · iexact HP
  isplitl [H1]; · iexact H1
  isplitl [H2]; · iexact H2
  iexact H3

theorem early_slot (s : Fin 16) (hs : s ≠ c) : iprop(early f0 fx c s ∗ barPay c s) ⊢ slot I f0 fx c s 0 1 := by
  rw [slot_peer I f0 fx c s 0 hs]
  show _ ⊢ peer1 I f0 fx c s 0
  unfold early barPay peer1 peer12 nextRes kept agOut
  rw [if_pos (by decide), if_pos (by decide)]
  simp only [ptIn, xvIn]
  iintro ⟨⟨H1, H2, H3, H4, H5, H6, H7, H8⟩, H9⟩
  iframe H1 H2 H3 H4 H5 H6 H9 H7 H8

/-- Every other device has told this one. -/
theorem barrier_wait {Q : PUnit → sProp 𝕄} {Y' : sProp (MT nD τ sig ℕ (Elt F) ℕ UU ℕ)} (hY : iprop(Y ∗ atPos ER (barCell c) 1 ∅ 0) ⊢ Y') (hQ : St I f0 fx c 0 K Y' (inGroups 16 0 0) ⊢ Q ⟨⟩) :
    Bar I f0 fx K c Y 16 ⊢ wpOf c (semWaitWord (SemArray.scalar (sig.barrier 0 rfl) : Sems sig S_).sem 15#32) Q := by
  rw [inGroups_first] at hQ
  have hj : iprop((bigSep (Finset.univ.erase c) fun s => early f0 fx c s) ∗ (bigSep (Finset.univ.erase c) fun s => barPay c s) ∗ own I f0 fx c 0 1)
      ⊢ allSlots I f0 fx c 0 fun _ => 1 := by
    unfold allSlots
    have h1 : (bigSep Finset.univ fun s => slot I f0 fx c s 0 1) = iprop(slot I f0 fx c c 0 1 ∗ bigSep (Finset.univ.erase c) fun s => slot I f0 fx c s 0 1) := bigSep_erase (Finset.mem_univ c)
    have h2 : iprop((bigSep (Finset.univ.erase c) fun s => early f0 fx c s) ∗ (bigSep (Finset.univ.erase c) fun s => barPay c s))
        ⊢ bigSep (Finset.univ.erase c) fun s => slot I f0 fx c s 0 1 :=
      (Entails.of_eq (bigSep_sep' (Finset.univ.erase c) _ _).symm).trans (bigSep_mono fun s hs => early_slot I f0 fx c s (Finset.ne_of_mem_erase hs))
    rw [h1, slot_own]
    iintro ⟨H1, H2, H3⟩
    isplitl [H3]; · iexact H3
    iapply h2; isplitl [H1] <;> iassumption
  unfold Bar St at *
  rw [pending_none, Finset.sum_empty, add_zero]
  unfold wpOf semWaitWord
  iintro ⟨#Hc, HY, ⟨%W, HO⟩, -, ⟨Hcr, Hat⟩, H2, H3⟩
  ihave #HI := (ctx_bar I K c) $$ Hc
  ihave #Hl := (ctx_lev I K) $$ Hc
  iapply (Rounds.wp_wait_rest_token 𝒱₀ ER (sched I) (c : Thread nD τ) none (κ := K (c, none))
      (wpE_semWait_eq 𝒱₀ (c : Thread nD τ) none Set.univ) (Set.mem_univ _) 0 (O := owed c 0 fun _ => 1) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait c (.reg barS) (i := 0) (b := 2) (by decide) (Nat.lt_succ_self 1) (above_owed c (by decide) _ fun s _ => by simp)); iexact Hl
    iexact Hat
  iintro ⟨HO, Hat, -, Hp⟩
  ihave Hp := (Entails.of_eq (rest_bar I c)) $$ Hp
  rw [wp_ret]; imodintro
  iapply hQ
  isplitr; · iexact Hc
  isplitl [HY Hat]; · iapply hY; isplitl [HY] <;> iassumption
  isplitl [HO]; · iexists _; iexact HO
  iapply hj
  isplitl [H3]; · iexact H3
  isplitl [Hp] <;> iassumption

/-- The device's own number. -/
theorem device_step {S : sProp (MT nD τ sig ℕ (Elt F) ℕ UU ℕ)} {Q : Dev nD → sProp 𝕄} (hQ : S ⊢ Q c) : S ⊢ wpOf c (Prog.lift .deviceId) Q := by
  unfold wpOf Prog.lift
  rw [wp_deviceId, wp_ret]
  iintro H; imodintro
  iapply hQ; iexact H

end Cert.MlpProof
-- ==== Proof.Deal.lean ====
/-
# The start

What every device is given before it runs: the rights to its own sends, its places at its own cells, and the promise that what it waits for will be sent.
-/
module

public import proofs.«01_k».proof.Proof.Start

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (K : Dev nD × CI → ℕ) (c : Fin 16)

/-! ## What is owed at the start -/

/-- Device `c` owes every other device a signal and, in each layer, two transfers. -/
def O₀ (c : Dev nD) : CellTallies nD τ sig ℕ := owed c 0 (fun _ => 1) + ∑ s ∈ pending c 1, tallyAt (barCell s) 0 1

theorem above_O₀ (c : Dev nD) : Above 1 (O₀ c) :=
  (above_owed c (by decide) _ fun s _ => by simp).add (Above.sum _ _ fun s _ => Above.tally rfl (by decide) (by show 1 ≤ 1; exact le_refl _))

theorem bar_ne_cell (k : Fin 4) (s c d : Fin 16) : barCell d ≠ cell k s c := fun h => nomatch congrArg Prod.snd h
theorem bar_iff (c d : Fin 16) : barCell c = barCell d ↔ c = d := ⟨fun h => congrArg (fun g : GSem nD τ sig => g.1.1) h, fun h => by rw [h]⟩
theorem cell_iff (k k' : Fin 4) (s s' c c' : Fin 16) : cell k s c = cell k' s' c' ↔ k = k' ∧ s = s' ∧ c = c' :=
  ⟨cell_inj, fun h => by rw [h.1, h.2.1, h.2.2]⟩

theorem tally_at (g g' : GSem nD τ sig) (i i' n : ℕ) : (tallyAt g i n : CellTallies nD τ sig ℕ) g' i' = if g' = g ∧ i' = i then n else 0 := tallyAt_apply ..

theorem sum_at {ι : Type} (T : Finset ι) (f : ι → CellTallies nD τ sig ℕ) (g : GSem nD τ sig) (i : ℕ) : (∑ s ∈ T, f s) g i = ∑ s ∈ T, f s g i := by
  rw [Finset.sum_apply, Finsupp.finset_sum_apply]
theorem add_at (f h : CellTallies nD τ sig ℕ) (g : GSem nD τ sig) (i : ℕ) : (f + h) g i = f g i + h g i := rfl

/-- What `d` owes at a transfer cell of `c`: a transfer a layer, if the cell is for what comes from `d`. -/
theorem O₀_cell (d s c : Fin 16) (k : Fin 4) (hk : k = 1 ∨ k = 3) (i : ℕ) : O₀ d (cell k s c) i = if d = s then (if s ≠ c ∧ i < 3 then N else 0) else 0 := by
  unfold O₀ owed od
  simp only [if_pos (show (1 : ℕ) ≤ 2 by decide)]
  unfold tail rsO agO
  simp only [add_at, sum_at, tally_at, cell_iff]
  have hb : ∀ s', ¬ (cell k s c = barCell s' ∧ i = 0) := fun s' h => bar_ne_cell k s c s' h.1.symm
  simp only [if_neg (hb _), Finset.sum_const_zero, add_zero]
  by_cases hd : d = s
  · subst hd
    rw [if_pos rfl]
    by_cases hc : d = c
    · subst hc
      rw [if_neg (fun h => h.1 rfl)]
      refine Finset.sum_eq_zero fun s' hs' => Finset.sum_eq_zero fun l _ => ?_
      have h := (Finset.ne_of_mem_erase hs').symm
      rw [if_neg (fun e => h e.1.2.2), if_neg (fun e => h e.1.2.2), add_zero]
    · rw [Finset.sum_eq_single_of_mem c (Finset.mem_erase.mpr ⟨fun e => hc e.symm, Finset.mem_univ _⟩) fun s' _ hs' => Finset.sum_eq_zero fun l _ => by
        rw [if_neg (fun e => hs' e.1.2.2.symm), if_neg (fun e => hs' e.1.2.2.symm), add_zero]]
      have e : ∀ l, (if ((k = 1 ∧ d = d ∧ c = c) ∧ i = l) then N else 0) + (if ((k = 3 ∧ d = d ∧ c = c) ∧ i = l) then N else 0) = if i = l then N else 0 := fun l => by
        rcases hk with rfl | rfl
        · rw [if_neg (c := ((1 : Fin 4) = 3 ∧ _) ∧ _) (fun h => absurd h.1.1 (by decide)), add_zero]
          exact if_congr ⟨fun h => h.2, fun h => ⟨⟨rfl, rfl, rfl⟩, h⟩⟩ rfl rfl
        · rw [if_neg (c := ((3 : Fin 4) = 1 ∧ _) ∧ _) (fun h => absurd h.1.1 (by decide)), zero_add]
          exact if_congr ⟨fun h => h.2, fun h => ⟨⟨rfl, rfl, rfl⟩, h⟩⟩ rfl rfl
      rw [Finset.sum_congr rfl fun l _ => e l, Finset.sum_ite_eq]
      simp only [Finset.mem_Ico]
      exact if_congr ⟨fun h => ⟨hc, h.2⟩, fun h => ⟨Nat.zero_le _, h.2⟩⟩ rfl rfl
  · rw [if_neg hd]
    refine Finset.sum_eq_zero fun s' hs' => Finset.sum_eq_zero fun l _ => ?_
    rw [if_neg (fun e => hd e.1.2.1.symm), if_neg (fun e => hd e.1.2.1.symm), add_zero]

/-- What `d` owes at `c`'s barrier. -/
theorem O₀_bar (d c : Fin 16) (i : ℕ) : O₀ d (barCell c) i = if d ≠ c ∧ i = 0 then 1 else 0 := by
  unfold O₀ owed od
  simp only [if_pos (show (1 : ℕ) ≤ 2 by decide)]
  unfold tail rsO agO
  simp only [add_at, sum_at, tally_at]
  have hb : ∀ k s' d', ∀ l, ¬ (barCell c = cell k s' d' ∧ i = l) := fun k s' d' l h => bar_ne_cell k s' d' c h.1
  simp only [if_neg (hb _ _ _ _), Finset.sum_const_zero, add_zero, zero_add, bar_iff]
  by_cases hi : i = 0
  · simp only [hi, and_true, pending_all, Finset.sum_ite_eq, Finset.mem_erase, Finset.mem_univ]
    exact if_congr ⟨fun h => fun e => h e.symm, fun h => fun e => h e.symm⟩ rfl rfl
  · rw [if_neg fun h => hi h.2]; exact Finset.sum_eq_zero fun s _ => if_neg fun h => hi h.2

theorem credit_bar (c : Dev nD) : tallyOn (barCell c) (launchCredit (Pipeline.owing O₀) 0 (barCell c)) = (tallyAt (barCell c) 0 15 : CellTallies nD τ sig ℕ) := by
  unfold tallyAt; refine congrArg _ (Finsupp.ext fun i => ?_)
  rw [Pipeline.launchCredit_owing, Finset.sum_congr rfl fun d _ => O₀_bar d c i, Finsupp.single_apply]
  by_cases hi : i = 0
  · subst hi; rw [if_pos rfl]; simp only [and_true]; revert c; decide +kernel
  · rw [if_neg fun h => hi h.symm]; exact Finset.sum_eq_zero fun d _ => if_neg fun h => hi h.2

theorem credit_cell (s c : Fin 16) (k : Fin 4) (hk : k = 1 ∨ k = 3) (hs : s ≠ c) :
    tallyOn (cell k s c) (launchCredit (Pipeline.owing O₀) 0 (cell k s c)) = (tallyAt (cell k s c) 0 N + (tallyAt (cell k s c) 1 N + tallyAt (cell k s c) 2 N) : CellTallies nD τ sig ℕ) := by
  unfold tallyAt; rw [← tallyOn_add, ← tallyOn_add]; refine congrArg _ (Finsupp.ext fun i => ?_)
  rw [Pipeline.launchCredit_owing, Finset.sum_congr rfl fun d _ => O₀_cell d s c k hk i, Finset.sum_ite_eq' Finset.univ s, if_pos (Finset.mem_univ _)]
  simp only [Finsupp.add_apply, Finsupp.single_apply]
  by_cases hi : i < 3
  · rw [if_pos ⟨hs, hi⟩]
    have : i = 0 ∨ i = 1 ∨ i = 2 := by omega
    rcases this with rfl | rfl | rfl <;> simp
  · rw [if_neg fun h => hi h.2, if_neg (by omega), if_neg (by omega), if_neg (by omega)]; rfl

/-! ## The promises -/

theorem bigSep_three (Φ : ℕ → sProp (MT nD τ sig ℕ (Elt F) ℕ UU ℕ)) : bigSep (Finset.Ico 0 3) Φ = iprop(Φ 0 ∗ Φ 1 ∗ Φ 2) :=
  bigSep_eq_bigSepL_of_eq [0, 1, 2] (by decide) (by decide) Φ

/-- That `s` will send device `c` its two transfers in each layer. -/
def due (s : Fin 16) : sProp 𝕄 := bigSep (Finset.Ico 0 3) fun l => iprop(cred (tallyAt (cell 1 s c) l N) ∗ cred (tallyAt (cell 3 s c) l N))

/-- A transfer semaphore's promise. -/
def duek (p : Fin 4 × Fin 16) : sProp 𝕄 := cred (tallyOn (cell p.1 p.2 c) (launchCredit (Pipeline.owing O₀) 0 (cell p.1 p.2 c)))

theorem duek_split (s : Fin 16) (k : Fin 4) (hk : k = 1 ∨ k = 3) (hs : s ≠ c) : (duek c (k, s) : sProp 𝕄) ⊢ bigSep (Finset.Ico 0 3) fun l => cred (tallyAt (cell k s c) l N) := by
  unfold duek
  rw [credit_cell s c k hk hs, bigSep_three]
  exact (cred_add _ _).1.trans (sep_mono_right (cred_add _ _).1)

/-- All that the launch promises device `c`. -/
theorem promises : (Pipeline.launchCred O₀ c : sProp 𝕄) ⊢ iprop(cred (tallyAt (barCell c) 0 15) ∗ bigSep (Finset.univ.erase c) fun s => due c s) := by
  unfold Pipeline.launchCred
  have h1 : (bigSep Finset.univ fun sm : SemLoc sig => (cred (tallyOn ((c : Thread nD τ), sm) (launchCredit (Pipeline.owing O₀) 0 ((c : Thread nD τ), sm))) : sProp 𝕄))
      ⊢ iprop(cred (tallyAt (barCell c) 0 15) ∗ bigSep (Finset.univ.erase (SemLoc.reg barS)) fun sm : SemLoc sig => cred (tallyOn ((c : Thread nD τ), sm) (launchCredit (Pipeline.owing O₀) 0 ((c : Thread nD τ), sm)))) := by
    rw [bigSep_univ_at _ (SemLoc.reg barS), credit_bar]
  have h2 : (bigSep (Finset.univ.erase (SemLoc.reg barS)) fun sm : SemLoc sig => (cred (tallyOn ((c : Thread nD τ), sm) (launchCredit (Pipeline.owing O₀) 0 ((c : Thread nD τ), sm))) : sProp 𝕄))
      ⊢ bigSep Finset.univ fun p => duek c p := by
    have hi : Function.Injective fun p : Fin 4 × Fin 16 => (SemLoc.dma (dsem p.1 p.2) : SemLoc sig) := fun p p' h => by
      obtain ⟨h1, h2⟩ := dsem_inj (SemLoc.dma.inj h); exact Prod.ext h1 h2
    have hm := bigSep_map (s := Finset.univ) (⟨_, hi⟩ : (Fin 4 × Fin 16) ↪ SemLoc sig) (Φ := fun sm : SemLoc sig => (cred (tallyOn ((c : Thread nD τ), sm) (launchCredit (Pipeline.owing O₀) 0 ((c : Thread nD τ), sm))) : sProp 𝕄))
    refine (bigSep_subset (t := Finset.univ.map ⟨_, hi⟩) ?_).trans (Entails.of_eq hm)
    intro x hx
    obtain ⟨p, -, rfl⟩ := Finset.mem_map.mp hx
    exact Finset.mem_erase.mpr ⟨(fun h => nomatch h), Finset.mem_univ _⟩
  have h3 : (bigSep Finset.univ fun p : Fin 4 × Fin 16 => (duek c p : sProp 𝕄)) ⊢ bigSep (Finset.univ.erase c) fun s => due c s := by
    rw [bigSep_univ_prod, bigSep_univ_eq_bigSepL [0, 1, 2, 3] (by decide) (by decide)]
    have hk (k : Fin 4) : (bigSep Finset.univ fun s : Fin 16 => (duek c (k, s) : sProp 𝕄)) ⊢ bigSep (Finset.univ.erase c) fun s => duek c (k, s) := bigSep_subset (Finset.erase_subset _ _)
    have hj : iprop((bigSep (Finset.univ.erase c) fun s => duek c (1, s)) ∗ (bigSep (Finset.univ.erase c) fun s => duek c (3, s))) ⊢ (bigSep (Finset.univ.erase c) fun s => due c s : sProp 𝕄) := by
      refine (Entails.of_eq (bigSep_sep' (Finset.univ.erase c) _ _).symm).trans (bigSep_mono fun s hs => ?_)
      have hs := Finset.ne_of_mem_erase hs
      refine (BIClass.sep_mono (duek_split c s 1 (Or.inl rfl) hs) (duek_split c s 3 (Or.inr rfl) hs)).trans ?_
      exact Entails.of_eq (bigSep_sep' (Finset.Ico 0 3) _ _).symm
    show iprop((bigSep Finset.univ fun s : Fin 16 => duek c (0, s)) ∗ (bigSep Finset.univ fun s : Fin 16 => duek c (1, s)) ∗ (bigSep Finset.univ fun s : Fin 16 => duek c (2, s)) ∗ (bigSep Finset.univ fun s : Fin 16 => duek c (3, s))) ⊢ _
    iintro ⟨-, H1, -, H3⟩
    ihave H1 := (hk 1) $$ H1
    ihave H3 := (hk 3) $$ H3
    iapply hj
    isplitl [H1] <;> iassumption
  exact h1.trans (sep_mono_right (h2.trans h3))

/-! ## Rights and places -/

/-- The right to signal `s`, and to make the transfers to and from `s`. -/
def pay (s : Fin 16) : sProp 𝕄 := iprop(dutyTok ER (barCell s) 0 c ∗ bigSep (Finset.Ico 0 3) fun l =>
  iprop(dutyTok ER (cell 0 s c) l 0 ∗ dutyTok ER (cell 1 c s) l 0 ∗ dutyTok ER (cell 2 s c) l 0 ∗ dutyTok ER (cell 3 c s) l 0))
/-- The same rights by whose cells they are for. -/
def mint (s : Fin 16) : sProp 𝕄 := iprop(dutyTok ER (barCell c) 0 s ∗ bigSep (Finset.Ico 0 3) fun l =>
  iprop(dutyTok ER (cell 0 s c) l 0 ∗ dutyTok ER (cell 1 s c) l 0 ∗ dutyTok ER (cell 2 s c) l 0 ∗ dutyTok ER (cell 3 s c) l 0))

/-- Every device's rights, dealt to those who use them. -/
theorem dealt : (bigSep Finset.univ fun c => bigSep Finset.univ fun s => mint c s : sProp 𝕄) = bigSep Finset.univ fun c => bigSep Finset.univ fun s => pay c s := by
  unfold mint pay
  simp only [bigSep_sep']
  rw [Pipeline.bigSep_univ_comm (fun c s : Fin 16 => (dutyTok ER (barCell c) 0 s : sProp 𝕄)),
    Pipeline.bigSep_univ_comm (fun c s : Fin 16 => (bigSep (Finset.Ico 0 3) fun l => dutyTok ER (cell 1 s c) l 0 : sProp 𝕄)),
    Pipeline.bigSep_univ_comm (fun c s : Fin 16 => (bigSep (Finset.Ico 0 3) fun l => dutyTok ER (cell 3 s c) l 0 : sProp 𝕄))]

theorem kcell_injective : Function.Injective (kcell : Dev nD × CI → GSem nD τ sig) := by
  rintro ⟨c, k⟩ ⟨c', k'⟩ h
  rcases k with _ | k <;> rcases k' with _ | k'
  · exact Prod.ext ((bar_iff c c').mp h) rfl
  · exact absurd h (bar_ne_cell _ _ _ _)
  · exact absurd h.symm (bar_ne_cell _ _ _ _)
  · obtain ⟨h1, h2, h3⟩ := cell_inj h
    exact Prod.ext h3 (congrArg some (Prod.ext h1 h2))
def allCells : Finset (GSem nD τ sig) := Finset.univ.map ⟨kcell, kcell_injective⟩

/-- A right: at whose cell, which other device it is about, and which it is. -/
abbrev TI : Type := Dev nD × Fin 16 × Option (Fin 3 × Fin 4)
def tokOf (p : TI) : GSem nD τ sig × ℕ × Fin 16 := match p.2.2 with
  | none => (barCell p.1, 0, p.2.1)
  | some q => (cell q.2 p.2.1 p.1, q.1.val, 0)
theorem tokOf_injective : Function.Injective tokOf := by
  rintro ⟨c, s, q⟩ ⟨c', s', q'⟩ h
  have hg := congrArg Prod.fst h
  have hr := congrArg Prod.snd h
  rcases q with _ | q <;> rcases q' with _ | q'
  · exact Prod.ext ((bar_iff c c').mp hg) (Prod.ext (congrArg Prod.snd hr) rfl)
  · exact absurd hg (bar_ne_cell _ _ _ _)
  · exact absurd hg.symm (bar_ne_cell _ _ _ _)
  · obtain ⟨h1, h2, h3⟩ := cell_inj hg
    exact Prod.ext h3 (Prod.ext h2 (congrArg some (Prod.ext (Fin.ext (congrArg Prod.fst hr)) h1)))
def allToks : Finset (GSem nD τ sig × ℕ × Fin 16) := Finset.univ.map ⟨tokOf, tokOf_injective⟩

def u₀ : UU := (initOf (Pipeline.cells cfgs cellOf_inj) (Pipeline.launchToks cfgs cellOf_inj), initOf allCells allToks)

theorem bigSep_option {A : Type} [Fintype A] [DecidableEq A] (Φ : Option A → sProp (MT nD τ sig ℕ (Elt F) ℕ UU ℕ)) :
    bigSep Finset.univ Φ = iprop(Φ none ∗ bigSep Finset.univ fun a => Φ (some a)) := by
  have e : (Finset.univ.erase none : Finset (Option A)) = Finset.univ.map Function.Embedding.some := by
    ext x; cases x <;> simp
  rw [bigSep_univ_at _ none, e, bigSep_map]; rfl

theorem bigSep_layers (Φ : ℕ → sProp (MT nD τ sig ℕ (Elt F) ℕ UU ℕ)) : bigSep Finset.univ (fun l : Fin 3 => Φ l.val) = bigSep (Finset.Ico 0 3) Φ := by
  rw [bigSep_three]; exact bigSep_univ_eq_bigSepL [0, 1, 2] (by decide) (by decide) _
theorem bigSep_kinds (Φ : Fin 4 → sProp (MT nD τ sig ℕ (Elt F) ℕ UU ℕ)) : bigSep Finset.univ Φ = iprop(Φ 0 ∗ Φ 1 ∗ Φ 2 ∗ Φ 3) :=
  bigSep_univ_eq_bigSepL [0, 1, 2, 3] (by decide) (by decide) _

/-- The launch's share for device `c`. -/
def G : sProp 𝕄 := iprop((bigSep Finset.univ fun k : CI => roundState ER (sched I) (kcell (c, k)) 0)
  ∗ (bigSep Finset.univ fun k : CI => iprop(atPos ER (kcell (c, k)) 0 ∅ 0 ∗ reached ER (kcell (c, k)) 0)) ∗ bigSep Finset.univ fun s => mint c s)

theorem fund : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun s => mint c s := by
    unfold allToks; rw [bigSep_map, bigSep_univ_prod]
    refine bigSep_congr fun c _ => ?_
    rw [bigSep_univ_prod]
    refine bigSep_congr fun s _ => ?_
    rw [bigSep_option, bigSep_univ_prod]
    unfold mint
    rw [← bigSep_layers]
    simp only [bigSep_kinds]; rfl
  iintro HX
  imod (Rounds.fund ER (sched I) allCells allToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

/-- The kernel's transfer semaphores. -/
abbrev osem (p : Fin 4 × Fin 16) : SemLoc sig := .dma (dsem p.1 p.2)

theorem ownSemFacts : Pipeline.OwnSemFacts cfg0.spec osem := by decide

theorem ownSems_eq : (Pipeline.ownSems0 (Ix := ℕ) (Name := ℕ) (U := UU) (Lvl := ℕ) (Val := Elt F) (τ := τ) osem c : sProp 𝕄)
    = bigSep Finset.univ fun p : Fin 4 × Fin 16 => semVal (cell p.1 p.2 c) 0 := rfl
theorem unscopedSems_eq : (unscopedSems0 c : sProp 𝕄) = semVal (barCell c) 0 := by
  unfold unscopedSems0; rw [bigSep_eq_bigSepL_of_eq [SemLoc.reg barS] (by decide) (by decide)]; rfl

theorem sems_eq : iprop(Pipeline.ownSems0 (Ix := ℕ) (Name := ℕ) (U := UU) (Lvl := ℕ) (Val := Elt F) (τ := τ) osem c ∗ unscopedSems0 c)
    ⊢ (bigSep Finset.univ fun k : CI => semVal (kcell (c, k)) 0 : sProp 𝕄) := by
  rw [ownSems_eq, unscopedSems_eq, bigSep_option]
  iintro ⟨H, HB⟩
  isplitl [HB]; · iexact HB
  iexact H

theorem core_alloc : iprop(Pipeline.ownSems0 (Ix := ℕ) (Name := ℕ) (U := UU) (Lvl := ℕ) (Val := Elt F) (τ := τ) osem c ∗ unscopedSems0 c ∗ G I c)
    ⊢ |={Set.univ}=> iprop((bigSep Finset.univ fun k : CI => iprop(∃ κ : ℕ, cellInv ER (sched I) κ (kcell (c, k))))
        ∗ (bigSep Finset.univ fun k : CI => iprop(atPos ER (kcell (c, k)) 0 ∅ 0 ∗ reached ER (kcell (c, k)) 0)) ∗ bigSep Finset.univ fun s => mint c s) := by
  unfold G
  iintro ⟨Hos, Hus, Hst, Hat, Htok⟩
  ihave Hv := (sems_eq (F := F) c) $$ [Hos Hus]
  · isplitl [Hos] <;> iassumption
  imod (show iprop((bigSep Finset.univ fun k : CI => semVal (kcell (c, k)) 0) ∗ bigSep Finset.univ fun k : CI => roundState ER (sched I) (kcell (c, k)) 0)
      ⊢ (|={Set.univ}=> bigSep Finset.univ fun k : CI => iprop(∃ κ : ℕ, cellInv ER (sched I) κ (kcell (c, k))) : sProp 𝕄) from by
        rw [← bigSep_sep']
        exact (bigSep_mono fun k _ => (Rounds.body_intro ER (sched I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that each is at its start. -/
def records : sProp 𝕄 := iprop((bigSep Finset.univ fun p : Dev nD × CI => cellInv ER (sched I) (K p) (kcell p)) ∗ bigSep Finset.univ fun p : Dev nD × CI => reached ER (kcell p) 0)
instance records_persistent : BI.Persistent (records I K) := by unfold records; infer_instance

theorem records_reached (p : Dev nD × CI) : records I K ⊢ (reached ER (kcell p) 0 : sProp 𝕄) := by
  unfold records
  iintro ⟨-, #H⟩
  have h : (bigSep Finset.univ fun p : Dev nD × CI => (reached ER (kcell p) 0 : sProp 𝕄)) ⊢ reached ER (kcell p) 0 := bigSep_elim (Finset.mem_univ p)
  iapply h; iexact H

/-- What device `c` alone holds of it. -/
def places : sProp 𝕄 := iprop((bigSep Finset.univ fun k : CI => atPos ER (kcell (c, k)) 0 ∅ 0) ∗ bigSep Finset.univ fun s => pay c s)
/-- What the devices' agreement on the cells gives device `c`. -/
def G' : sProp 𝕄 := iprop(∃ K, records I K ∗ places c)

theorem regroup : (bigSep Finset.univ fun c : Dev nD => iprop((bigSep Finset.univ fun k : CI => iprop(∃ κ : ℕ, cellInv ER (sched I) κ (kcell (c, k))))
        ∗ (bigSep Finset.univ fun k : CI => iprop(atPos ER (kcell (c, k)) 0 ∅ 0 ∗ reached ER (kcell (c, k)) 0)) ∗ bigSep Finset.univ fun s => mint c s) : sProp 𝕄)
    ⊢ bigSep Finset.univ (G' I) := by
  rw [bigSep_sep', bigSep_sep', ← bigSep_univ_prod (fun p : Dev nD × CI => iprop(∃ κ : ℕ, cellInv ER (sched I) κ (kcell p))), dealt,
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (sched I) κ (kcell p) : sProp 𝕄))) $$ HI
  icases HK with ⟨%K, #HI⟩
  have h : iprop(records I K ∗ bigSep Finset.univ fun c : Dev nD => places c) ⊢ (bigSep Finset.univ (G' I) : sProp 𝕄) := by
    refine (sep_mono_left (BI.bigSep_of_persistent (Finset.univ : Finset (Dev nD)) (records I K))).trans ?_
    rw [← bigSep_sep']
    refine bigSep_mono fun c _ => ?_
    exact (show iprop(records I K ∗ places c) ⊢ G' I c from by unfold G'; iintro H; iexists K; iexact H)
  iapply h
  isplitr
  · unfold records; isplitl; · iexact HI
    iexact HR
  · unfold places
    iapply (Entails.of_eq (bigSep_sep' Finset.univ (fun c : Dev nD => (bigSep Finset.univ fun k : CI => (atPos ER (kcell (c, k)) 0 ∅ 0 : sProp 𝕄))) (fun c => bigSep Finset.univ fun s => pay c s)).symm)
    isplitl [Hat]; · iexact Hat
    iexact Htok

/-- All devices together open their cells. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Cert.MlpProof
-- ==== Proof.Ends.lean ====
/-
# From the launch to the barrier, and from the last layer to the end

A device takes its three scratch buffers apart into slots before the barrier, and at the end puts them together again and closes its cells.
-/
module

public import proofs.«01_k».proof.Proof.Deal
public import proofs.«01_k».proof.Proof.Args

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inp F) (f0 fx : Big F) (K : Dev nD × CI → ℕ) (c : Fin 16)

/-! ## Before the barrier -/

/-- What a device starts from. -/
def start (c : Dev nD) : sProp 𝕄 := iprop(G' I c ∗ (cred (tallyAt (barCell c) 0 15) ∗ bigSep (Finset.univ.erase c) fun s => due c s) ∗ levAts L lv)
/-- Its three scratch buffers, whatever they hold. -/
def scratch (c : Dev nD) : sProp 𝕄 := iprop((∃ f : Big F, ptPts c Finset.univ fullShare f) ∗ (∃ f : Big F, rsPts c Finset.univ fullShare f) ∗ ∃ f : Big F, xvPts c Finset.univ fullShare f)

/-- The four places of the cells for `s`. -/
def atSlot (s : Fin 16) : sProp 𝕄 := iprop(atPos ER (cell 0 s c) 0 ∅ 0 ∗ atPos ER (cell 1 s c) 0 ∅ 0 ∗ atPos ER (cell 2 s c) 0 ∅ 0 ∗ atPos ER (cell 3 s c) 0 ∅ 0)

theorem places_eq : (places c : sProp 𝕄) = iprop((atPos ER (barCell c) 0 ∅ 0 ∗ bigSep Finset.univ fun s => atSlot c s) ∗ bigSep Finset.univ fun s => pay c s) := by
  unfold places atSlot
  rw [bigSep_option, bigSep_univ_prod, Pipeline.bigSep_univ_comm]
  simp only [bigSep_kinds]; rfl

theorem bigSep_out (Φ : Fin 16 → sProp (MT nD τ sig ℕ (Elt F) ℕ UU ℕ)) : bigSep Finset.univ Φ = iprop(Φ c ∗ bigSep (Finset.univ.erase c) Φ) := bigSep_erase (Finset.mem_univ c)

/-- What the barrier and the first layer take for one other device. -/
theorem early_intro (f1 : Big F) (s : Fin 16) : iprop(records I K ∗ atSlot c s ∗ pay c s ∗ due c s ∗ ptPts c {s} fullShare f0 ∗ rsPts c {s} fullShare f1 ∗ xvPts c {s} fullShare fx)
    ⊢ (iprop(tell c s ∗ early f0 fx c s) : sProp 𝕄) := by
  have hr : iprop((bigSep (Finset.Ico 0 3) fun l => iprop(dutyTok ER (cell 0 s c) l 0 ∗ dutyTok ER (cell 1 c s) l 0 ∗ dutyTok ER (cell 2 s c) l 0 ∗ dutyTok ER (cell 3 c s) l 0)) ∗ due c s)
      ⊢ (rest c s 0 : sProp 𝕄) := by
    unfold due rest
    refine (Entails.of_eq (bigSep_sep' (Finset.Ico 0 3) _ _).symm).trans (bigSep_mono fun l _ => ?_)
    exact (show iprop((dutyTok ER (cell 0 s c) l 0 ∗ dutyTok ER (cell 1 c s) l 0 ∗ dutyTok ER (cell 2 s c) l 0 ∗ dutyTok ER (cell 3 c s) l 0) ∗ (cred (tallyAt (cell 1 s c) l N) ∗ cred (tallyAt (cell 3 s c) l N)))
        ⊢ (toks c s l : sProp 𝕄) from by
      unfold toks
      iintro ⟨⟨H1, H2, H3, H4⟩, H5, H6⟩; iframe H1 H2 H3 H4 H5 H6)
  unfold atSlot pay tell early posn
  iintro ⟨#HR, ⟨H0, H1, H2, H3⟩, ⟨Hb, Ht⟩, Hd, Hp, Hs, Hx⟩
  ihave Hrest := hr $$ [Ht Hd]
  · isplitl [Ht] <;> iassumption
  isplitl [Hb Hs]
  · isplitl [Hb]; · iexact Hb
    isplitr; · iapply (records_reached I K (s, none)); iexact HR
    iexists f1; iexact Hs
  isplitl [Hp]; · iexact Hp
  isplitl [Hx]; · iexact Hx
  isplitl [H0]
  · isplitl [H0]; · iexact H0
    iapply (records_reached I K (c, some (0, s))); iexact HR
  isplitl [H1]
  · isplitl [H1]; · iexact H1
    iapply (records_reached I K (c, some (1, s))); iexact HR
  isplitl [H2]
  · isplitl [H2]; · iexact H2
    iapply (records_reached I K (c, some (2, s))); iexact HR
  isplitl [H3]
  · isplitl [H3]; · iexact H3
    iapply (records_reached I K (c, some (3, s))); iexact HR
  isplitr
  · iapply (records_reached I K (s, some (1, c))); iexact HR
  iexact Hrest

/-- All of a device's holdings at the launch, in the shape the barrier takes them in. -/
theorem bar_intro (f1 : Big F) (X : sProp (MT nD τ sig ℕ (Elt F) ℕ UU ℕ)) (Y : sProp (MT nD τ sig ℕ (Elt F) ℕ UU ℕ))
    (hY : iprop(X ∗ bigSep Finset.univ fun k : Fin 4 => atPos ER (cell k c c) 0 ∅ 0) ⊢ Y) :
    iprop((records I K ∗ places c) ∗ ((cred (tallyAt (barCell c) 0 15) ∗ bigSep (Finset.univ.erase c) fun s => due c s) ∗ levAts L lv)
      ∗ (ptPts c Finset.univ fullShare f0 ∗ rsPts c Finset.univ fullShare f1 ∗ xvPts c Finset.univ fullShare fx) ∗ (∃ W, owes (c : Thread nD τ) (O₀ c) W) ∗ X)
      ⊢ Bar I f0 fx K c Y 1 := by
  have hall : iprop(records I K ∗ (bigSep (Finset.univ.erase c) fun s => iprop(atSlot c s ∗ pay c s ∗ due c s ∗ ptPts c {s} fullShare f0 ∗ rsPts c {s} fullShare f1 ∗ xvPts c {s} fullShare fx)))
      ⊢ iprop((bigSep (Finset.univ.erase c) fun s => tell c s) ∗ bigSep (Finset.univ.erase c) fun s => early f0 fx c s) := by
    refine (sep_mono_left (BI.bigSep_of_persistent (Finset.univ.erase c) (records I K))).trans ?_
    rw [← bigSep_sep']
    refine (bigSep_mono fun s _ => early_intro I f0 fx K c f1 s).trans ?_
    exact Entails.of_eq (bigSep_sep' (Finset.univ.erase c) _ _)
  have hsix : iprop((bigSep (Finset.univ.erase c) fun s => atSlot c s) ∗ (bigSep (Finset.univ.erase c) fun s => pay c s) ∗ (bigSep (Finset.univ.erase c) fun s => due c s)
      ∗ (bigSep (Finset.univ.erase c) fun s => ptPts c {s} fullShare f0) ∗ (bigSep (Finset.univ.erase c) fun s => rsPts c {s} fullShare f1) ∗ (bigSep (Finset.univ.erase c) fun s => xvPts c {s} fullShare fx))
      ⊢ (bigSep (Finset.univ.erase c) fun s => iprop(atSlot c s ∗ pay c s ∗ due c s ∗ ptPts c {s} fullShare f0 ∗ rsPts c {s} fullShare f1 ∗ xvPts c {s} fullShare fx) : sProp 𝕄) := by
    simp only [bigSep_sep']; exact .rfl
  have hown : (atSlot c c : sProp 𝕄) = bigSep Finset.univ fun k : Fin 4 => atPos ER (cell k c c) 0 ∅ 0 := by unfold atSlot; rw [bigSep_kinds]
  unfold Bar
  rw [places_eq, pt_group c Finset.univ, rs_group c Finset.univ, xv_group c Finset.univ, bigSep_out c (fun s => atSlot c s), bigSep_out c (fun s => pay c s),
    bigSep_out c (fun s => ptPts c {s} fullShare f0), bigSep_out c (fun s => rsPts c {s} fullShare f1), bigSep_out c (fun s => xvPts c {s} fullShare fx), pending_all, hown]
  iintro ⟨⟨#HR, ⟨Hbar, Hio, Hi⟩, -, Hpay⟩, ⟨⟨Hcr, Hdue⟩, #Hl⟩, ⟨⟨Hpo, Hp⟩, ⟨Hro, Hr⟩, ⟨Hxo, Hx⟩⟩, HO, HX⟩
  ihave H := hsix $$ [Hi Hpay Hdue Hp Hr Hx]
  · iframe Hi Hpay Hdue Hp Hr Hx
  ihave H := hall $$ [H]
  · isplitr; · iexact HR
    iexact H
  icases H with ⟨Ht, He⟩
  isplitr
  · unfold ctx
    isplitr
    · unfold records; icases HR with ⟨#HI, -⟩; iexact HI
    iexact Hl
  isplitl [HX Hio]; · iapply hY; isplitl [HX] <;> iassumption
  isplitl [HO]
  · icases HO with ⟨%W, HO⟩; iexists W; unfold O₀; rw [pending_all]; iexact HO
  isplitl [Ht]; · iexact Ht
  isplitl [Hcr Hbar]; · isplitl [Hcr] <;> iassumption
  isplitl [Hpo Hro Hxo]
  · simp only [own, ownShare, ptIn, xvIn, if_pos]
    isplitl [Hpo]; · iexact Hpo
    isplitl [Hxo]; · iexact Hxo
    iexists f1; iexact Hro
  iexact He

/-! ## The end -/

/-- A cell whose rounds are over gives its counter back, at zero. -/
theorem cell_end (k : Fin 4) (s : Fin 16) (R : ℕ) (hR : ∀ r, R ≤ r → (sched I).duties (cell k s c) r = ∅) :
    iprop(ctx I K ∗ atPos ER (cell k s c) R ∅ 0) ⊢ |={Set.univ}=> (semVal (cell k s c) 0 : sProp 𝕄) := by
  iintro ⟨#Hc, Hat⟩
  ihave #HI := (ctx_cell I K k s c) $$ Hc
  imod (Rounds.cell_close ER (sched I) (Set.mem_univ (K (c, some (k, s)))) (fun h => h) (R := R) hR) $$ [Hat] with Hz
  · isplitr; · iexact HI
    iexact Hat
  imodintro; iexact Hz

theorem bar_end : iprop(ctx I K ∗ atPos ER (barCell c) 1 ∅ 0) ⊢ |={Set.univ}=> (semVal (barCell c) 0 : sProp 𝕄) := by
  iintro ⟨#Hc, Hat⟩
  ihave #HI := (ctx_bar I K c) $$ Hc
  imod (Rounds.cell_close ER (sched I) (Set.mem_univ (K (c, none))) (fun h => h) (R := 1) (duties_bar_later I c)) $$ [Hat] with Hz
  · isplitr; · iexact HI
    iexact Hat
  imodintro; iexact Hz

/-- The four counters of the cells for `s`. -/
def zeros (s : Fin 16) : sProp 𝕄 := iprop(semVal (cell 0 s c) 0 ∗ semVal (cell 1 s c) 0 ∗ semVal (cell 2 s c) 0 ∗ semVal (cell 3 s c) 0)

theorem zeros_eq : (bigSep Finset.univ fun s => zeros c s : sProp 𝕄) = bigSep Finset.univ fun p : Fin 4 × Fin 16 => semVal (cell p.1 p.2 c) 0 := by
  unfold zeros
  rw [bigSep_univ_prod, Pipeline.bigSep_univ_comm]
  simp only [bigSep_kinds]

/-- A slot at the end: its buffers' parts and its places. -/
theorem peer_end (s : Fin 16) (hs : s ≠ c) : iprop(ctx I K ∗ slot I f0 fx c s 3 9)
    ⊢ |={Set.univ}=> (iprop(zeros c s ∗ ptPts c {s} fullShare (PB I 2 c) ∗ xvPts c {s} fullShare (XB I 3) ∗ lent I c s 3 ∗ rsPts c {s} fullShare (RB I 2 c)) : sProp 𝕄) := by
  rw [slot_peer I f0 fx c s 3 hs]
  show iprop(_ ∗ peer9 I f0 fx c s 3) ⊢ _
  unfold peer9 posn kept zeros
  rw [if_neg (by decide)]
  simp only [ptIn, xvIn]
  iintro ⟨#Hc, Hp, Hx, ⟨H0, -⟩, ⟨H1, -⟩, ⟨⟨H2, -⟩, Hl⟩, ⟨H3, -⟩, -, Hr, -⟩
  imod (cell_end I K c 0 s 3 (duties_cell_later I c s 0)) $$ [H0] with Z0
  · isplitr; · iexact Hc
    iexact H0
  imod (cell_end I K c 1 s 3 (duties_cell_later I c s 1)) $$ [H1] with Z1
  · isplitr; · iexact Hc
    iexact H1
  imod (cell_end I K c 2 s 3 (duties_cell_later I c s 2)) $$ [H2] with Z2
  · isplitr; · iexact Hc
    iexact H2
  imod (cell_end I K c 3 s 3 (duties_cell_later I c s 3)) $$ [H3] with Z3
  · isplitr; · iexact Hc
    iexact H3
  imodintro
  isplitl [Z0 Z1 Z2 Z3]; · iframe Z0 Z1 Z2 Z3
  iframe Hp Hx Hl Hr

theorem own_end : iprop(ctx I K ∗ bigSep Finset.univ fun k : Fin 4 => atPos ER (cell k c c) 0 ∅ 0) ⊢ |={Set.univ}=> (zeros c c : sProp 𝕄) := by
  rw [bigSep_kinds]
  unfold zeros
  iintro ⟨#Hc, H0, H1, H2, H3⟩
  imod (cell_end I K c 0 c 0 (fun r _ => duties_cell_own I c 0 r)) $$ [H0] with Z0
  · isplitr; · iexact Hc
    iexact H0
  imod (cell_end I K c 1 c 0 (fun r _ => duties_cell_own I c 1 r)) $$ [H1] with Z1
  · isplitr; · iexact Hc
    iexact H1
  imod (cell_end I K c 2 c 0 (fun r _ => duties_cell_own I c 2 r)) $$ [H2] with Z2
  · isplitr; · iexact Hc
    iexact H2
  imod (cell_end I K c 3 c 0 (fun r _ => duties_cell_own I c 3 r)) $$ [H3] with Z3
  · isplitr; · iexact Hc
    iexact H3
  imodintro
  iframe Z0 Z1 Z2 Z3

/-- The collected results' buffer put together, its own slot holding anything. -/
theorem rs_join (f g : Big F) : iprop(rsPts c {c} fullShare f ∗ bigSep (Finset.univ.erase c) fun s => rsPts c {s} fullShare g)
    ⊢ (∃ h : Big F, rsPts c Finset.univ fullShare h : sProp 𝕄) := by
  have e : iprop(rsPts c {c} fullShare f ∗ bigSep (Finset.univ.erase c) fun s => rsPts c {s} fullShare g)
      = (rsPts c Finset.univ fullShare (fun i => if slotOf i = c then f i else g i) : sProp 𝕄) := by
    rw [rs_group c Finset.univ, bigSep_out c (fun s => rsPts c {s} fullShare _)]
    rw [rsPts_congr c {c} fullShare f (fun i => if slotOf i = c then f i else g i) fun i hi => (if_pos (Finset.mem_singleton.mp (mem_slots.mp hi))).symm]
    rw [bigSep_congr fun s hs => rsPts_congr c {s} fullShare g (fun i => if slotOf i = c then f i else g i) fun i hi =>
      (if_neg (fun h => Finset.ne_of_mem_erase hs ((Finset.mem_singleton.mp (mem_slots.mp hi)).symm.trans h))).symm]
  rw [e]
  iintro H; iexists _; iexact H

/-- What a device is left with. -/
def Φ₁ (c : Dev nD) : sProp 𝕄 := iprop(scratch c ∗ (bigSep Finset.univ fun p : Fin 4 × Fin 16 => semVal (cell p.1 p.2 c) 0) ∗ semVal (barCell c) 0)

theorem the_end : St I f0 fx c 3 K (side I c (outDone I c)) (fun _ => 9)
    ⊢ |={Set.univ}=> (iprop(Φ₁ c ∗ (∃ W, owes (c : Thread nD τ) 0 W) ∗ argPts c cc0_stg0_0 (I.x c) ∗ weights I c ∗ outDone I c) : sProp 𝕄) := by
  have hall : iprop(ctx I K ∗ bigSep (Finset.univ.erase c) fun s => slot I f0 fx c s 3 9)
      ⊢ |={Set.univ}=> (iprop((bigSep (Finset.univ.erase c) fun s => zeros c s) ∗ (bigSep (Finset.univ.erase c) fun s => ptPts c {s} fullShare (PB I 2 c))
        ∗ (bigSep (Finset.univ.erase c) fun s => xvPts c {s} fullShare (XB I 3)) ∗ (bigSep (Finset.univ.erase c) fun s => lent I c s 3) ∗ (bigSep (Finset.univ.erase c) fun s => rsPts c {s} fullShare (RB I 2 c))) : sProp 𝕄) := by
    simp only [← bigSep_sep']
    refine (sep_mono_left (BI.bigSep_of_persistent (Finset.univ.erase c) (ctx I K))).trans ?_
    rw [← bigSep_sep']
    exact (bigSep_mono fun s hs => peer_end I f0 fx K c s (Finset.ne_of_mem_erase hs)).trans (bigSep_fupd _ _)
  have hp : iprop(ptPts c {c} fullShare (PB I 2 c) ∗ bigSep (Finset.univ.erase c) fun s => ptPts c {s} fullShare (PB I 2 c)) = (ptPts c Finset.univ fullShare (PB I 2 c) : sProp 𝕄) := by
    rw [pt_group c Finset.univ, bigSep_out c]
  have hx : iprop(xvPts c {c} fullShare (XB I 3) ∗ bigSep (Finset.univ.erase c) fun s => xvPts c {s} fullShare (XB I 3)) = (xvPts c Finset.univ fullShare (XB I 3) : sProp 𝕄) := by
    rw [xv_group c Finset.univ, bigSep_out c]
  have hz : iprop(zeros c c ∗ bigSep (Finset.univ.erase c) fun s => zeros c s) = (bigSep Finset.univ fun p : Fin 4 × Fin 16 => semVal (cell p.1 p.2 c) 0 : sProp 𝕄) := by
    rw [← zeros_eq, bigSep_out c]
  unfold St side idle allSlots
  rw [owed_end c _ fun s _ => Or.inr (by decide), bigSep_out c, slot_own]
  simp only [own]
  iintro ⟨#Hc, ⟨Hx, Hw, Ho, Hb, Hi⟩, HO, ⟨Hpo, Hxo, ⟨%f, Hro⟩⟩, Hs⟩
  imod hall $$ [Hs] with ⟨Hz, Hp, Hxv, Hl, Hr⟩
  · isplitr; · iexact Hc
    iexact Hs
  imod (own_end I K c) $$ [Hi] with Hzo
  · isplitr; · iexact Hc
    iexact Hi
  imod (bar_end I K c) $$ [Hb] with Hzb
  · isplitr; · iexact Hc
    iexact Hb
  imodintro
  ihave Hxo := (lent_join I fx c 3) $$ [Hxo Hl]
  · isplitl [Hxo] <;> iassumption
  ihave Hp := (Entails.of_eq hp) $$ [Hpo Hp]
  · isplitl [Hpo]; · iexact Hpo
    iexact Hp
  ihave Hxv := (Entails.of_eq hx) $$ [Hxo Hxv]
  · isplitl [Hxo]; · iexact Hxo
    iexact Hxv
  ihave Hr := (rs_join c f (RB I 2 c)) $$ [Hro Hr]
  · isplitl [Hro] <;> iassumption
  ihave Hz := (Entails.of_eq hz) $$ [Hzo Hz]
  · isplitl [Hzo] <;> iassumption
  isplitl [Hp Hxv Hr Hz Hzb]
  · unfold Φ₁ scratch
    isplitl [Hp Hxv Hr]
    · isplitl [Hp]; · iexists _; iexact Hp
      isplitl [Hr]; · iexact Hr
      iexists _; iexact Hxv
    isplitl [Hz] <;> iassumption
  isplitl [HO]; · iexact HO
  isplitl [Hx]; · iexact Hx
  isplitl [Hw]; · iexact Hw
  iexact Ho

end Cert.MlpProof
-- ==== Proof.Layers.lean ====
/-
# The kernel up to the last layer's results

The first part of the kernel, from the barrier to the third layer's results collected: each operation moves the state by one turn of its loop.
-/
module

public import proofs.«01_k».proof.Proof.Start
public import proofs.«01_k».proof.Proof.Args
public import Idealize.ShloMosaic.Lib.Pipeline.Value

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (I : Inp F) (f0 fx : Big F) (K : Dev nD × CI → ℕ) (c : Fin 16) (l : ℕ) (Y : sProp (MT nD τ sig ℕ (Elt F) ℕ UU ℕ))

/-- What a device holds besides its slots before the barrier. -/
def side₀ (O : sProp (MT nD τ sig ℕ (Elt F) ℕ UU ℕ)) : sProp (MT nD τ sig ℕ (Elt F) ℕ UU ℕ) :=
  iprop(argPts c cc0_stg0_0 (I.x c) ∗ weights I c ∗ O ∗ bigSep Finset.univ fun k : Fin 4 => atPos ER (cell k c c) 0 ∅ 0)
theorem side_bar (O : sProp (MT nD τ sig ℕ (Elt F) ℕ UU ℕ)) : iprop(side₀ I c O ∗ atPos ER (barCell c) 1 ∅ 0) ⊢ side I c O := by
  unfold side₀ side idle
  iintro ⟨⟨H1, H2, H3, H4⟩, H5⟩
  iframe H1 H2 H3 H5 H4

variable {Q : (Σ' (_ : Dev nD) (_ : BitVec 32), FVec F S32x256 .f32) → sProp (MT nD τ sig ℕ (Elt F) ℕ UU ℕ)}

set_option maxHeartbeats 40000000 in
/-- The kernel's first part. -/
theorem layers_run (hQ : St I f0 fx c 2 K (side I c (outAny c)) (fun _ => 5) ⊢ Q ⟨c, wordOf c, k0_pay23 (RB I 2 c)⟩) :
    Bar I f0 fx K c (side₀ I c (outAny c)) 1 ⊢ wpOf c (k0_part79 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [k0_part79_eq_skeleton]; unfold k0_part79_skel
  -- The barrier.
  refine call_step fun Q' hQ' => ?_
  rw [k0_part1_eq_skeleton]; unfold k0_part1_skel
  refine bind_step (device_step c ?_)
  try extract_lets
  iterate 5 (refine bind_step (signal_turn I f0 fx K c _ _ (by decide) (by decide) (by exact dev_word c _ _ rfl) ?_))
  refine pure_step ?_
  subst hQ'
  refine call_step fun Q' hQ' => ?_
  rw [k0_part2_eq_skeleton]; unfold k0_part2_skel
  try extract_lets
  iterate 6 (refine bind_step (signal_turn I f0 fx K c _ _ (by decide) (by decide) (by exact dev_word c _ _ rfl) ?_))
  refine pure_step ?_
  subst hQ'
  -- The first layer: its groups computed and sent.
  refine call_step fun Q' hQ' => ?_
  rw [k0_part3_eq_skeleton]; unfold k0_part3_skel
  try extract_lets
  iterate 4 (refine bind_step (signal_turn I f0 fx K c _ _ (by decide) (by decide) (by exact dev_word c _ _ rfl) ?_))
  refine bind_step (barrier_wait I f0 fx K c _ (side_bar I c _) ?_)
  refine bind_step (tokens_turn I f0 fx K c _ _ _ _ (by decide) _ (by rfl) ?_)
  refine bind_step (read_arg I f0 fx K c _ _ (m := Memref.whole cc0_stg1_0) (X := I.wi 0 c) (I.wi 0 c) (side_1 I c _) (Memref.readAt_unit_zero (Elt F) cc0_stg1_0 zero2 _ _) _ ?_)
  refine bind_step (read_arg I f0 fx K c _ _ (m := Memref.whole cc0_stg2_0) (X := I.wo 0 c) (I.wo 0 c) (side_2 I c _) (Memref.readAt_unit_zero (Elt F) cc0_stg2_0 zero2 _ _) _ ?_)
  refine pure_step ?_
  subst hQ'
  refine call_step fun Q' hQ' => ?_
  rw [k0_part4_eq_skeleton]; unfold k0_part4_skel
  try extract_lets
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine bind_step (tokens_turn I f0 fx K c _ _ _ _ (by decide) _ (by rfl) ?_)
  refine bind_step (read_arg I f0 fx K c _ _ (m := Memref.whole cc0_stg1_0) (X := I.wi 0 c) (I.wi 0 c) (side_1 I c _) (Memref.readAt_unit_zero (Elt F) cc0_stg1_0 zero2 _ _) _ ?_)
  refine bind_step (read_arg I f0 fx K c _ _ (m := Memref.whole cc0_stg2_0) (X := I.wo 0 c) (I.wo 0 c) (side_2 I c _) (Memref.readAt_unit_zero (Elt F) cc0_stg2_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  refine pure_step ?_
  subst hQ'
  refine call_step fun Q' hQ' => ?_
  rw [k0_part5_eq_skeleton]; unfold k0_part5_skel
  try extract_lets
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine bind_step (tokens_turn I f0 fx K c _ _ _ _ (by decide) _ (by rfl) ?_)
  refine bind_step (read_arg I f0 fx K c _ _ (m := Memref.whole cc0_stg1_0) (X := I.wi 0 c) (I.wi 0 c) (side_1 I c _) (Memref.readAt_unit_zero (Elt F) cc0_stg1_0 zero2 _ _) _ ?_)
  refine bind_step (read_arg I f0 fx K c _ _ (m := Memref.whole cc0_stg2_0) (X := I.wo 0 c) (I.wo 0 c) (side_2 I c _) (Memref.readAt_unit_zero (Elt F) cc0_stg2_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  refine send_turn I f0 fx K c _ _ _ _ _ (by decide) (by decide) (by decide) (by exact word_ne c _ _) (by exact fun _ => rfl) (by exact fun _ => rfl) (by exact fun _ => slot_word c) (by exact fun _ => rfl) (by exact fun _ => at_word c) ?_
  refine pure_step ?_
  subst hQ'
  refine call_step fun Q' hQ' => ?_
  rw [k0_part6_eq_skeleton]; unfold k0_part6_skel
  try extract_lets
  iterate 3 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine bind_step (tokens_turn I f0 fx K c _ _ _ _ (by decide) _ (by rfl) ?_)
  refine bind_step (read_arg I f0 fx K c _ _ (m := Memref.whole cc0_stg1_0) (X := I.wi 0 c) (I.wi 0 c) (side_1 I c _) (Memref.readAt_unit_zero (Elt F) cc0_stg1_0 zero2 _ _) _ ?_)
  refine bind_step (read_arg I f0 fx K c _ _ (m := Memref.whole cc0_stg2_0) (X := I.wo 0 c) (I.wo 0 c) (side_2 I c _) (Memref.readAt_unit_zero (Elt F) cc0_stg2_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 2 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine pure_step ?_
  subst hQ'
  refine call_step fun Q' hQ' => ?_
  rw [k0_part7_eq_skeleton]; unfold k0_part7_skel
  try extract_lets
  iterate 2 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine groups_done I f0 fx K c _ _ ?_
  refine bind_step (read_ptOwn I f0 fx K c _ _ _ (by exact slot_word c) _ (by rfl) fun v hv => ?_)
  refine bind_step (read_rsOwn I f0 fx K c _ _ _ (by exact slot_word c) _ (by rfl) fun _ => ?_)
  refine bind_step (keep_turn I f0 fx K c _ _ _ (by exact slot_word c) (by exact fun j => (congrFun (shapeCast_shapeCast v _ _) j).trans (hv j)) ?_)
  refine bind_step (res_turn I f0 fx K c _ _ _ (by decide) (by decide) (by decide) (by exact at_word_add c _ _) (by rfl) ?_)
  refine pure_step ?_
  subst hQ'
  -- The collected results summed and the sum sent.
  refine call_step fun Q' hQ' => ?_
  rw [k0_part8_eq_skeleton]; unfold k0_part8_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part9_eq_skeleton]; unfold k0_part9_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part10_eq_skeleton]; unfold k0_part10_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part11_eq_skeleton]; unfold k0_part11_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part12_eq_skeleton]; unfold k0_part12_skel
  try extract_lets
  iterate 2 (refine bind_step (res_turn I f0 fx K c _ _ _ (by decide) (by decide) (by decide) (by exact at_word_add c _ _) (by rfl) ?_))
  refine near_done I f0 fx K c _ _ ?_
  refine bind_step (read_rs I f0 fx K c _ _ _ (by rfl) ?_)
  refine (st_first I f0 fx K c _).trans ?_
  refine bind_step (read_xvOwn I f0 fx K c _ _ _ (by exact slot_word c) _ (by rfl) fun _ => ?_)
  refine bind_step (write_xvOwn I f0 fx K c _ _ _ (by exact slot_word c) (by rfl) ?_)
  refine (first_67 I f0 fx K c _ _).trans ?_
  refine pure_step ?_
  subst hQ'
  refine call_step fun Q' hQ' => ?_
  rw [k0_part13_eq_skeleton]; unfold k0_part13_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part14_eq_skeleton]; unfold k0_part14_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part15_eq_skeleton]; unfold k0_part15_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part16_eq_skeleton]; unfold k0_part16_skel
  try extract_lets
  iterate 2 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part17_eq_skeleton]; unfold k0_part17_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part18_eq_skeleton]; unfold k0_part18_skel
  try extract_lets
  refine bind_step (sum_turn I f0 fx K c _ _ _ (by decide) (by decide) (by decide) (by exact dev_word c _ _ rfl) (by exact slot_word c) (by exact slot_word c) (by exact at_word_add c _ _) (by exact at_word c) ?_)
  refine far_done I f0 fx K c _ _ ?_
  refine (first_78 I f0 fx K c _ _).trans ?_
  iterate 3 (refine bind_step (sentRes_turn I f0 fx K c _ _ _ (by decide) (by decide) (by decide) (by exact at_word_add c _ _) (by rfl) ?_))
  refine pure_step ?_
  subst hQ'
  refine call_step fun Q' hQ' => ?_
  rw [k0_part19_eq_skeleton]; unfold k0_part19_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part20_eq_skeleton]; unfold k0_part20_skel
  try extract_lets
  iterate 3 (refine bind_step (sentRes_turn I f0 fx K c _ _ _ (by decide) (by decide) (by decide) (by exact at_word_add c _ _) (by rfl) ?_))
  refine pure_step ?_
  subst hQ'
  refine call_step fun Q' hQ' => ?_
  rw [k0_part21_eq_skeleton]; unfold k0_part21_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part22_eq_skeleton]; unfold k0_part22_skel
  try extract_lets
  refine bind_step (sentRes_turn I f0 fx K c _ _ _ (by decide) (by decide) (by decide) (by exact at_word_add c _ _) (by rfl) ?_)
  refine near_done I f0 fx K c _ _ ?_
  refine (st_next I f0 fx K c _ _).trans ?_
  refine groups_open I f0 fx K c _ _ ?_
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg3_0) (X := I.wi 1 c) (I.wi 1 c) (side_3 I c _) (Memref.readAt_unit_zero (Elt F) cc0_stg3_0 zero2 _ _) _ ?_)
  refine bind_step (read_arg I f0 fx K c _ _ (m := Memref.whole cc0_stg4_0) (X := I.wo 1 c) (I.wo 1 c) (side_4 I c _) (Memref.readAt_unit_zero (Elt F) cc0_stg4_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  refine pure_step ?_
  subst hQ'
  -- The second layer.
  refine call_step fun Q' hQ' => ?_
  rw [k0_part23_eq_skeleton]; unfold k0_part23_skel
  try extract_lets
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg3_0) (X := I.wi 1 c) (I.wi 1 c) (side_3 I c _) (Memref.readAt_unit_zero (Elt F) cc0_stg3_0 zero2 _ _) _ ?_)
  refine pure_step ?_
  subst hQ'
  refine call_step fun Q' hQ' => ?_
  rw [k0_part24_eq_skeleton]; unfold k0_part24_skel
  try extract_lets
  refine bind_step (read_arg I f0 fx K c _ _ (m := Memref.whole cc0_stg4_0) (X := I.wo 1 c) (I.wo 1 c) (side_4 I c _) (Memref.readAt_unit_zero (Elt F) cc0_stg4_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  iterate 3 (refine get_turn I f0 fx K c _ _ _ _ _ (by decide) (by decide) (by decide) (by decide) (by decide) (by exact word_ne c _ _) (by exact fun _ => rfl) (by exact fun _ => rfl) ?_)
  refine pure_step ?_
  subst hQ'
  refine call_step fun Q' hQ' => ?_
  rw [k0_part25_eq_skeleton]; unfold k0_part25_skel
  try extract_lets
  refine get_turn I f0 fx K c _ _ _ _ _ (by decide) (by decide) (by decide) (by decide) (by decide) (by exact word_ne c _ _) (by exact fun _ => rfl) (by exact fun _ => rfl) ?_
  refine bind_step (input_turn I f0 fx K c _ _ _ _ _ (by decide) (by decide) (by decide) _ (by rfl) ?_)
  refine bind_step (read_arg I f0 fx K c _ _ (m := Memref.whole cc0_stg3_0) (X := I.wi 1 c) (I.wi 1 c) (side_3 I c _) (Memref.readAt_unit_zero (Elt F) cc0_stg3_0 zero2 _ _) _ ?_)
  refine bind_step (read_arg I f0 fx K c _ _ (m := Memref.whole cc0_stg4_0) (X := I.wo 1 c) (I.wo 1 c) (side_4 I c _) (Memref.readAt_unit_zero (Elt F) cc0_stg4_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine pure_step ?_
  subst hQ'
  refine call_step fun Q' hQ' => ?_
  rw [k0_part26_eq_skeleton]; unfold k0_part26_skel
  try extract_lets
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg3_0) (X := I.wi 1 c) (I.wi 1 c) (side_3 I c _) (Memref.readAt_unit_zero (Elt F) cc0_stg3_0 zero2 _ _) _ ?_)
  refine bind_step (read_arg I f0 fx K c _ _ (m := Memref.whole cc0_stg4_0) (X := I.wo 1 c) (I.wo 1 c) (side_4 I c _) (Memref.readAt_unit_zero (Elt F) cc0_stg4_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  refine send_turn I f0 fx K c _ _ _ _ _ (by decide) (by decide) (by decide) (by exact word_ne c _ _) (by exact fun _ => rfl) (by exact fun _ => rfl) (by exact fun _ => slot_word c) (by exact fun _ => rfl) (by exact fun _ => at_word c) ?_
  refine pure_step ?_
  subst hQ'
  refine call_step fun Q' hQ' => ?_
  rw [k0_part27_eq_skeleton]; unfold k0_part27_skel
  try extract_lets
  iterate 3 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine groups_done I f0 fx K c _ _ ?_
  refine bind_step (read_ptOwn I f0 fx K c _ _ _ (by exact slot_word c) _ (by rfl) fun v hv => ?_)
  refine bind_step (read_rsOwn I f0 fx K c _ _ _ (by exact slot_word c) _ (by rfl) fun _ => ?_)
  refine bind_step (keep_turn I f0 fx K c _ _ _ (by exact slot_word c) (by exact fun j => (congrFun (shapeCast_shapeCast v _ _) j).trans (hv j)) ?_)
  refine bind_step (res_turn I f0 fx K c _ _ _ (by decide) (by decide) (by decide) (by exact at_word_add c _ _) (by rfl) ?_)
  refine pure_step ?_
  subst hQ'
  -- The collected results summed and the sum sent.
  refine call_step fun Q' hQ' => ?_
  rw [k0_part28_eq_skeleton]; unfold k0_part28_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part29_eq_skeleton]; unfold k0_part29_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part30_eq_skeleton]; unfold k0_part30_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part31_eq_skeleton]; unfold k0_part31_skel
  try extract_lets
  iterate 2 (refine bind_step (res_turn I f0 fx K c _ _ _ (by decide) (by decide) (by decide) (by exact at_word_add c _ _) (by rfl) ?_))
  refine pure_step ?_
  subst hQ'
  refine call_step fun Q' hQ' => ?_
  rw [k0_part32_eq_skeleton]; unfold k0_part32_skel
  try extract_lets
  iterate 3 (refine bind_step (res_turn I f0 fx K c _ _ _ (by decide) (by decide) (by decide) (by exact at_word_add c _ _) (by rfl) ?_))
  refine near_done I f0 fx K c _ _ ?_
  refine bind_step (read_rs I f0 fx K c _ _ _ (by rfl) ?_)
  refine (first_45 I f0 fx K c _ _).trans ?_
  refine pure_step ?_
  subst hQ'
  refine call_step fun Q' hQ' => ?_
  rw [k0_part33_eq_skeleton]; unfold k0_part33_skel
  try extract_lets
  iterate 4 (refine bind_step (sentSum_turn I f0 fx K c _ _ _ (by decide) (by decide) (by decide) (by exact at_word_add c _ _) (by rfl) ?_))
  refine pure_step ?_
  subst hQ'
  refine call_step fun Q' hQ' => ?_
  rw [k0_part34_eq_skeleton]; unfold k0_part34_skel
  try extract_lets
  iterate 4 (refine bind_step (sentSum_turn I f0 fx K c _ _ _ (by decide) (by decide) (by decide) (by exact at_word_add c _ _) (by rfl) ?_))
  refine pure_step ?_
  subst hQ'
  refine call_step fun Q' hQ' => ?_
  rw [k0_part35_eq_skeleton]; unfold k0_part35_skel
  try extract_lets
  iterate 3 (refine bind_step (sentSum_turn I f0 fx K c _ _ _ (by decide) (by decide) (by decide) (by exact at_word_add c _ _) (by rfl) ?_))
  refine pure_step ?_
  subst hQ'
  refine call_step fun Q' hQ' => ?_
  rw [k0_part36_eq_skeleton]; unfold k0_part36_skel
  try extract_lets
  iterate 4 (refine bind_step (sentSum_turn I f0 fx K c _ _ _ (by decide) (by decide) (by decide) (by exact at_word_add c _ _) (by rfl) ?_))
  refine near_done I f0 fx K c _ _ ?_
  refine bind_step (read_xvOwn I f0 fx K c _ _ _ (by exact slot_word c) _ (by rfl) fun _ => ?_)
  refine bind_step (write_xvOwn I f0 fx K c _ _ _ (by exact slot_word c) (by rfl) ?_)
  refine (first_67 I f0 fx K c _ _).trans ?_
  refine pure_step ?_
  subst hQ'
  refine call_step fun Q' hQ' => ?_
  rw [k0_part37_eq_skeleton]; unfold k0_part37_skel
  try extract_lets
  iterate 2 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part38_eq_skeleton]; unfold k0_part38_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part39_eq_skeleton]; unfold k0_part39_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part40_eq_skeleton]; unfold k0_part40_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part41_eq_skeleton]; unfold k0_part41_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part42_eq_skeleton]; unfold k0_part42_skel
  try extract_lets
  refine bind_step (sum_turn I f0 fx K c _ _ _ (by decide) (by decide) (by decide) (by exact dev_word c _ _ rfl) (by exact slot_word c) (by exact slot_word c) (by exact at_word_add c _ _) (by exact at_word c) ?_)
  refine far_done I f0 fx K c _ _ ?_
  refine (first_78 I f0 fx K c _ _).trans ?_
  iterate 2 (refine bind_step (sentRes_turn I f0 fx K c _ _ _ (by decide) (by decide) (by decide) (by exact at_word_add c _ _) (by rfl) ?_))
  refine pure_step ?_
  subst hQ'
  refine call_step fun Q' hQ' => ?_
  rw [k0_part43_eq_skeleton]; unfold k0_part43_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part44_eq_skeleton]; unfold k0_part44_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part45_eq_skeleton]; unfold k0_part45_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part46_eq_skeleton]; unfold k0_part46_skel
  try extract_lets
  refine bind_step (sentRes_turn I f0 fx K c _ _ _ (by decide) (by decide) (by decide) (by exact at_word_add c _ _) (by rfl) ?_)
  refine near_done I f0 fx K c _ _ ?_
  refine (st_next I f0 fx K c _ _).trans ?_
  refine groups_open I f0 fx K c _ _ ?_
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg5_0) (X := I.wi 2 c) (I.wi 2 c) (side_5 I c _) (Memref.readAt_unit_zero (Elt F) cc0_stg5_0 zero2 _ _) _ ?_)
  refine bind_step (read_arg I f0 fx K c _ _ (m := Memref.whole cc0_stg6_0) (X := I.wo 2 c) (I.wo 2 c) (side_6 I c _) (Memref.readAt_unit_zero (Elt F) cc0_stg6_0 zero2 _ _) _ ?_)
  refine pure_step ?_
  subst hQ'
  -- The third layer.
  refine call_step fun Q' hQ' => ?_
  rw [k0_part47_eq_skeleton]; unfold k0_part47_skel
  try extract_lets
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine pure_step ?_
  subst hQ'
  refine call_step fun Q' hQ' => ?_
  rw [k0_part48_eq_skeleton]; unfold k0_part48_skel
  try extract_lets
  refine bind_step (read_arg I f0 fx K c _ _ (m := Memref.whole cc0_stg5_0) (X := I.wi 2 c) (I.wi 2 c) (side_5 I c _) (Memref.readAt_unit_zero (Elt F) cc0_stg5_0 zero2 _ _) _ ?_)
  refine bind_step (read_arg I f0 fx K c _ _ (m := Memref.whole cc0_stg6_0) (X := I.wo 2 c) (I.wo 2 c) (side_6 I c _) (Memref.readAt_unit_zero (Elt F) cc0_stg6_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine get_turn I f0 fx K c _ _ _ _ _ (by decide) (by decide) (by decide) (by decide) (by decide) (by exact word_ne c _ _) (by exact fun _ => rfl) (by exact fun _ => rfl) ?_
  refine pure_step ?_
  subst hQ'
  refine call_step fun Q' hQ' => ?_
  rw [k0_part49_eq_skeleton]; unfold k0_part49_skel
  try extract_lets
  iterate 3 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg5_0) (X := I.wi 2 c) (I.wi 2 c) (side_5 I c _) (Memref.readAt_unit_zero (Elt F) cc0_stg5_0 zero2 _ _) _ ?_)
  refine bind_step (read_arg I f0 fx K c _ _ (m := Memref.whole cc0_stg6_0) (X := I.wo 2 c) (I.wo 2 c) (side_6 I c _) (Memref.readAt_unit_zero (Elt F) cc0_stg6_0 zero2 _ _) _ ?_)
  refine bind_step (old_turn I f0 fx K c _ _ _ _ _ (by decide) (by decide) (by decide) _ (by rfl) fun _ => ?_)
  refine bind_step (compute_turn I f0 fx K c _ _ _ _ (by decide) (by decide) _ (by rfl) (by rfl) _ (by decide) ?_)
  iterate 2 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine pure_step ?_
  subst hQ'
  refine call_step fun Q' hQ' => ?_
  rw [k0_part50_eq_skeleton]; unfold k0_part50_skel
  try extract_lets
  iterate 2 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  iterate 4 (refine get_turn I f0 fx K c _ _ _ _ _ (by decide) (by decide) (by decide) (by decide) (by decide) (by exact word_ne c _ _) (by exact fun _ => rfl) (by exact fun _ => rfl) ?_)
  refine bind_step (input_turn I f0 fx K c _ _ _ _ _ (by decide) (by decide) (by decide) _ (by rfl) ?_)
  refine bind_step (read_arg I f0 fx K c _ _ (m := Memref.whole cc0_stg5_0) (X := I.wi 2 c) (I.wi 2 c) (side_5 I c _) (Memref.readAt_unit_zero (Elt F) cc0_stg5_0 zero2 _ _) _ ?_)
  refine bind_step (read_arg I f0 fx K c _ _ (m := Memref.whole cc0_stg6_0) (X := I.wo 2 c) (I.wo 2 c) (side_6 I c _) (Memref.readAt_unit_zero (Elt F) cc0_stg6_0 zero2 _ _) _ ?_)
  refine bind_step (old_turn I f0 fx K c _ _ _ _ _ (by decide) (by decide) (by decide) _ (by rfl) fun _ => ?_)
  refine pure_step ?_
  subst hQ'
  refine call_step fun Q' hQ' => ?_
  rw [k0_part51_eq_skeleton]; unfold k0_part51_skel
  try extract_lets
  refine bind_step (compute_turn I f0 fx K c _ _ _ _ (by decide) (by decide) _ (by rfl) (by rfl) _ (by decide) ?_)
  iterate 4 (refine send_turn I f0 fx K c _ _ _ _ _ (by decide) (by decide) (by decide) (by exact word_ne c _ _) (by exact fun _ => rfl) (by exact fun _ => rfl) (by exact fun _ => slot_word c) (by exact fun _ => rfl) (by exact fun _ => at_word c) ?_)
  refine groups_done I f0 fx K c _ _ ?_
  refine bind_step (read_ptOwn I f0 fx K c _ _ _ (by exact slot_word c) _ (by rfl) fun v hv => ?_)
  refine bind_step (read_rsOwn I f0 fx K c _ _ _ (by exact slot_word c) _ (by rfl) fun _ => ?_)
  refine bind_step (keep_turn I f0 fx K c _ _ _ (by exact slot_word c) (by exact fun j => (congrFun (shapeCast_shapeCast v _ _) j).trans (hv j)) ?_)
  refine bind_step (res_turn I f0 fx K c _ _ _ (by decide) (by decide) (by decide) (by exact at_word_add c _ _) (by rfl) ?_)
  refine pure_step ?_
  subst hQ'
  -- The collected results summed.
  refine call_step fun Q' hQ' => ?_
  rw [k0_part52_eq_skeleton]; unfold k0_part52_skel
  try extract_lets
  iterate 2 (refine bind_step (res_turn I f0 fx K c _ _ _ (by decide) (by decide) (by decide) (by exact at_word_add c _ _) (by rfl) ?_))
  refine pure_step ?_
  subst hQ'
  refine call_step fun Q' hQ' => ?_
  rw [k0_part53_eq_skeleton]; unfold k0_part53_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part54_eq_skeleton]; unfold k0_part54_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part55_eq_skeleton]; unfold k0_part55_skel
  try extract_lets
  iterate 3 (refine bind_step (res_turn I f0 fx K c _ _ _ (by decide) (by decide) (by decide) (by exact at_word_add c _ _) (by rfl) ?_))
  refine pure_step ?_
  subst hQ'
  refine call_step fun Q' hQ' => ?_
  rw [k0_part56_eq_skeleton]; unfold k0_part56_skel
  try extract_lets
  iterate 3 (refine bind_step (res_turn I f0 fx K c _ _ _ (by decide) (by decide) (by decide) (by exact at_word_add c _ _) (by rfl) ?_))
  refine near_done I f0 fx K c _ _ ?_
  refine bind_step (read_rs I f0 fx K c _ _ _ (by rfl) ?_)
  refine (first_45 I f0 fx K c _ _).trans ?_
  refine pure_step ?_
  subst hQ'
  refine call_step fun Q' hQ' => ?_
  rw [k0_part57_eq_skeleton]; unfold k0_part57_skel
  try extract_lets
  iterate 3 (refine bind_step (sentSum_turn I f0 fx K c _ _ _ (by decide) (by decide) (by decide) (by exact at_word_add c _ _) (by rfl) ?_))
  refine pure_step ?_
  subst hQ'
  refine call_step fun Q' hQ' => ?_
  rw [k0_part58_eq_skeleton]; unfold k0_part58_skel
  try extract_lets
  iterate 4 (refine bind_step (sentSum_turn I f0 fx K c _ _ _ (by decide) (by decide) (by decide) (by exact at_word_add c _ _) (by rfl) ?_))
  refine pure_step ?_
  subst hQ'
  refine call_step fun Q' hQ' => ?_
  rw [k0_part59_eq_skeleton]; unfold k0_part59_skel
  try extract_lets
  iterate 4 (refine bind_step (sentSum_turn I f0 fx K c _ _ _ (by decide) (by decide) (by decide) (by exact at_word_add c _ _) (by rfl) ?_))
  refine pure_step ?_
  subst hQ'
  refine call_step fun Q' hQ' => ?_
  rw [k0_part60_eq_skeleton]; unfold k0_part60_skel
  try extract_lets
  iterate 4 (refine bind_step (sentSum_turn I f0 fx K c _ _ _ (by decide) (by decide) (by decide) (by exact at_word_add c _ _) (by rfl) ?_))
  refine pure_step ?_
  subst hQ'
  refine near_done I f0 fx K c _ _ ?_
  refine pure_step ?_
  exact hQ

end Cert.MlpProof
-- ==== Proof.Whole.lean ====
/-
# The whole kernel

The kernel's second part, from the third layer's sum to the end, and the whole kernel.
-/
module

public import proofs.«01_k».proof.Proof.Layers

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (I : Inp F) (f0 fx : Big F) (K : Dev nD × CI → ℕ) (c : Fin 16) {Q : PUnit → sProp (MT nD τ sig ℕ (Elt F) ℕ UU ℕ)}

set_option maxHeartbeats 40000000 in
/-- The kernel's second part, but for the last wait. -/
theorem finish_run (hQ : St I f0 fx c 3 K (side I c (outDone I c)) (inOrder near 1 9 15 c) ⊢ Q ⟨⟩) :
    St I f0 fx c 2 K (side I c (outAny c)) (fun _ => 5)
      ⊢ wpOf c (k0_part80 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (wordOf c) (k0_pay23 (RB I 2 c))) Q := by
  rw [k0_part80_eq_skeleton]; unfold k0_part80_skel
  -- The sum sent.
  refine call_step fun Q' hQ' => ?_
  rw [k0_part61_eq_skeleton]; unfold k0_part61_skel
  try extract_lets
  refine bind_step (read_xvOwn I f0 fx K c _ _ _ (by exact slot_word c) _ (by rfl) fun _ => ?_)
  refine bind_step (write_xvOwn I f0 fx K c _ _ _ (by exact slot_word c) (by rfl) ?_)
  refine (first_67 I f0 fx K c _ _).trans ?_
  iterate 2 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part62_eq_skeleton]; unfold k0_part62_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part63_eq_skeleton]; unfold k0_part63_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part64_eq_skeleton]; unfold k0_part64_skel
  try extract_lets
  iterate 3 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part65_eq_skeleton]; unfold k0_part65_skel
  try extract_lets
  iterate 2 (refine bind_step (sum_turn I f0 fx K c _ _ _ (by decide) (by decide) (by decide) (by exact dev_word c _ _ rfl) (by exact slot_word c) (by exact slot_word c) (by exact at_word_add c _ _) (by exact at_word c) ?_))
  refine pure_step ?_
  subst hQ'
  refine call_step fun Q' hQ' => ?_
  rw [k0_part66_eq_skeleton]; unfold k0_part66_skel
  try extract_lets
  iterate 2 (refine bind_step (sum_turn I f0 fx K c _ _ _ (by decide) (by decide) (by decide) (by exact dev_word c _ _ rfl) (by exact slot_word c) (by exact slot_word c) (by exact at_word_add c _ _) (by exact at_word c) ?_))
  refine far_done I f0 fx K c _ _ ?_
  refine (first_78 I f0 fx K c _ _).trans ?_
  iterate 2 (refine bind_step (sentRes_turn I f0 fx K c _ _ _ (by decide) (by decide) (by decide) (by exact at_word_add c _ _) (by rfl) ?_))
  refine pure_step ?_
  subst hQ'
  refine call_step fun Q' hQ' => ?_
  rw [k0_part67_eq_skeleton]; unfold k0_part67_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part68_eq_skeleton]; unfold k0_part68_skel
  try extract_lets
  iterate 3 (refine bind_step (sentRes_turn I f0 fx K c _ _ _ (by decide) (by decide) (by decide) (by exact at_word_add c _ _) (by rfl) ?_))
  refine pure_step ?_
  subst hQ'
  refine call_step fun Q' hQ' => ?_
  rw [k0_part69_eq_skeleton]; unfold k0_part69_skel
  try extract_lets
  iterate 4 (refine bind_step (sentRes_turn I f0 fx K c _ _ _ (by decide) (by decide) (by decide) (by exact at_word_add c _ _) (by rfl) ?_))
  refine pure_step ?_
  subst hQ'
  refine call_step fun Q' hQ' => ?_
  rw [k0_part70_eq_skeleton]; unfold k0_part70_skel
  try extract_lets
  iterate 2 (refine bind_step (sentRes_turn I f0 fx K c _ _ _ (by decide) (by decide) (by decide) (by exact at_word_add c _ _) (by rfl) ?_))
  refine near_done I f0 fx K c _ _ ?_
  refine (st_next I f0 fx K c _ _).trans ?_
  refine (first_01 I f0 fx K c _ _).trans ?_
  refine bind_step (lastGot_turn I f0 fx K c _ _ (by decide) (by decide) (by exact at_word_add c _ _) (by rfl) ?_)
  refine pure_step ?_
  subst hQ'
  -- The last sums received, the result stored.
  refine call_step fun Q' hQ' => ?_
  rw [k0_part71_eq_skeleton]; unfold k0_part71_skel
  try extract_lets
  iterate 3 (refine bind_step (lastGot_turn I f0 fx K c _ _ (by decide) (by decide) (by exact at_word_add c _ _) (by rfl) ?_))
  refine pure_step ?_
  subst hQ'
  refine call_step fun Q' hQ' => ?_
  rw [k0_part72_eq_skeleton]; unfold k0_part72_skel
  try extract_lets
  iterate 3 (refine bind_step (lastGot_turn I f0 fx K c _ _ (by decide) (by decide) (by exact at_word_add c _ _) (by rfl) ?_))
  refine pure_step ?_
  subst hQ'
  refine call_step fun Q' hQ' => ?_
  rw [k0_part73_eq_skeleton]; unfold k0_part73_skel
  try extract_lets
  iterate 3 (refine bind_step (lastGot_turn I f0 fx K c _ _ (by decide) (by decide) (by exact at_word_add c _ _) (by rfl) ?_))
  refine pure_step ?_
  subst hQ'
  refine call_step fun Q' hQ' => ?_
  rw [k0_part74_eq_skeleton]; unfold k0_part74_skel
  try extract_lets
  iterate 3 (refine bind_step (lastGot_turn I f0 fx K c _ _ (by decide) (by decide) (by exact at_word_add c _ _) (by rfl) ?_))
  refine pure_step ?_
  subst hQ'
  refine call_step fun Q' hQ' => ?_
  rw [k0_part75_eq_skeleton]; unfold k0_part75_skel
  try extract_lets
  iterate 2 (refine bind_step (lastGot_turn I f0 fx K c _ _ (by decide) (by decide) (by exact at_word_add c _ _) (by rfl) ?_))
  refine near_done I f0 fx K c _ _ ?_
  refine bind_step (read_xvAll I f0 fx K c 2 _ _ (by rfl) ?_)
  refine bind_step (read_out I f0 fx K c _ _ _ fun _ => ?_)
  refine bind_step (write_out I f0 fx K c _ _ zero2 (by rfl) _ ?_)
  refine (first_19 I f0 fx K c _ _).trans ?_
  refine pure_step ?_
  subst hQ'
  -- The last sums have arrived everywhere.
  refine call_step fun Q' hQ' => ?_
  rw [k0_part76_eq_skeleton]; unfold k0_part76_skel
  try extract_lets
  iterate 4 (refine bind_step (sentLast_turn I f0 fx K c _ _ (by decide) (by decide) (by exact at_word_add c _ _) (by rfl) ?_))
  refine pure_step ?_
  subst hQ'
  refine call_step fun Q' hQ' => ?_
  rw [k0_part77_eq_skeleton]; unfold k0_part77_skel
  try extract_lets
  iterate 4 (refine bind_step (sentLast_turn I f0 fx K c _ _ (by decide) (by decide) (by exact at_word_add c _ _) (by rfl) ?_))
  refine pure_step ?_
  subst hQ'
  refine call_step fun Q' hQ' => ?_
  rw [k0_part78_eq_skeleton]; unfold k0_part78_skel
  try extract_lets
  iterate 4 (refine bind_step (sentLast_turn I f0 fx K c _ _ (by decide) (by decide) (by exact at_word_add c _ _) (by rfl) ?_))
  refine pure_step ?_
  subst hQ'
  iterate 2 (refine bind_step (sentLast_turn I f0 fx K c _ _ (by decide) (by decide) (by exact at_word_add c _ _) (by rfl) ?_))
  refine pure_step ?_
  exact hQ

set_option maxHeartbeats 40000000 in
/-- The kernel. -/
theorem kernel_run (hQ : St I f0 fx c 3 K (side I c (outDone I c)) (fun _ => 9) ⊢ Q ⟨⟩) :
    Bar I f0 fx K c (side₀ I c (outAny c)) 1 ⊢ wpOf c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [cc0_body_eq_skeleton]; unfold cc0_body_skel
  refine bind_step (layers_run I f0 fx K c ?_)
  refine bind_step (finish_run I f0 fx K c ?_)
  refine bind_step (sentLast_turn I f0 fx K c _ _ (by decide) (by decide) (by exact at_word_add c _ _) (by rfl) ?_)
  refine near_done I f0 fx K c _ _ ?_
  refine pure_step ?_
  exact hQ

end Cert.MlpProof
-- ==== Proof.Run.lean ====
/-
# The run

Every device runs to its end, its arguments unchanged, its output the result of the three layers and its semaphores at zero: the kernel inside the pipeline that brings its arguments in and its output out.
-/
module

public import proofs.«01_k».proof.Proof.Ends
public import proofs.«01_k».proof.Proof.Whole
public import Idealize.ShloMosaic.Lib.Pipeline.CollectiveSegs
public import proofs.«01_k».proof.Proof.Gen.KernelIdeal.Points
public import Idealize.ShloMosaic.Lib.Pipeline.Value

@[expose] public section

set_option maxRecDepth 16384

noncomputable section

namespace Cert.MlpProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- What the devices are given, read off that memory. -/
def inp : Inp F where
  x c := m ((c : Thread nD τ).loc main_arg0)
  wi l c := match l with
    | 0 => m ((c : Thread nD τ).loc main_arg1)
    | 1 => m ((c : Thread nD τ).loc main_arg2)
    | _ => m ((c : Thread nD τ).loc main_arg3)
  wo l c := match l with
    | 0 => m ((c : Thread nD τ).loc main_arg4)
    | 1 => m ((c : Thread nD τ).loc main_arg5)
    | _ => m ((c : Thread nD τ).loc main_arg6)

def Φ₀ (c : Dev nD) : sProp 𝕄 := iprop(start (inp m) c ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => result (inp m)
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer held with given contents. -/
abbrev stg (c : Dev nD) (b : Ref sig .tc) (X : b.ty.Contents (Elt F)) : sProp (MT nD τ sig ℕ (Elt F) ℕ UU ℕ) :=
  iprop(∃ f : Buf (Elt F) (((c : Dev nD) : Thread nD τ).loc b), ⌜f = X⌝ ∗ (((c : Thread nD τ).loc b) ↦{fullShare} f))

theorem stg_eq (c : Dev nD) (b : Ref sig .tc) (X : b.ty.Contents (Elt F)) : stg c b X = argPts c b X := by
  unfold stg argPts
  refine BI.Entails.antisymm ?_ ?_
  · exact (show iprop(∃ f : Buf (Elt F) (((c : Dev nD) : Thread nD τ).loc b), ⌜f = X⌝ ∗ (((c : Thread nD τ).loc b) ↦{fullShare} f)) ⊢ (((c : Thread nD τ).loc b) ↦{fullShare} X) from by
      iintro ⟨%f, %h, H⟩; subst h; iexact H)
  · exact (show (((c : Thread nD τ).loc b) ↦{fullShare} X) ⊢ iprop(∃ f : Buf (Elt F) (((c : Dev nD) : Thread nD τ).loc b), ⌜f = X⌝ ∗ (((c : Thread nD τ).loc b) ↦{fullShare} f)) from by
      iintro H; iexists X; isplitr
      · ipureintro; rfl
      · iexact H)

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = argPts c b X := by
  rw [← stg_eq]
  unfold owns stg; simp only [Memref.view_whole, View.read_whole, View.set_whole]

def bodyPre (c : Dev nD) : sProp 𝕄 := iprop(Φ₀ m c ∗ (dats m ρ 0 c).owesAt 0 t0_0.castSucc
  ∗ (∃ d, argPts c cc0_stg0_0 ((dats m ρ 0 c).before (0 : Fin 8) t0_0 d)) ∗ (∃ d, argPts c cc0_stg1_0 ((dats m ρ 0 c).before (1 : Fin 8) t0_0 d))
  ∗ (∃ d, argPts c cc0_stg2_0 ((dats m ρ 0 c).before (2 : Fin 8) t0_0 d)) ∗ (∃ d, argPts c cc0_stg3_0 ((dats m ρ 0 c).before (3 : Fin 8) t0_0 d))
  ∗ (∃ d, argPts c cc0_stg4_0 ((dats m ρ 0 c).before (4 : Fin 8) t0_0 d)) ∗ (∃ d, argPts c cc0_stg5_0 ((dats m ρ 0 c).before (5 : Fin 8) t0_0 d))
  ∗ (∃ d, argPts c cc0_stg6_0 ((dats m ρ 0 c).before (6 : Fin 8) t0_0 d)) ∗ (∃ d, argPts c cc0_stg7_0 ((dats m ρ 0 c).before (7 : Fin 8) t0_0 d)))

def bodyPost (c : Dev nD) : sProp 𝕄 := iprop(Φ₁ c ∗ (dats m ρ 0 c).owesAt 0 t0_0.succ
  ∗ argPts c cc0_stg0_0 ((inp m).x c) ∗ argPts c cc0_stg1_0 ((inp m).wi 0 c) ∗ argPts c cc0_stg2_0 ((inp m).wo 0 c) ∗ argPts c cc0_stg3_0 ((inp m).wi 1 c)
  ∗ argPts c cc0_stg4_0 ((inp m).wo 1 c) ∗ argPts c cc0_stg5_0 ((inp m).wi 2 c) ∗ argPts c cc0_stg6_0 ((inp m).wo 2 c) ∗ argPts c cc0_stg7_0 (result (inp m)))

/-- A window that brings in the whole of an array shows the kernel that array. -/
theorem before_0 (c : Dev nD) (d) : (dats m ρ 0 c).before (0 : Fin 8) t0_0 d = (inp m).x c := by
  unfold Dat.before; rw [if_pos (fetch0_0 t0_0)]
  exact funext fun i => congrArg (m ((c : Thread nD τ).loc main_arg0)) (funext fun a => Fin.ext (win0_0.rect_emb_val_of_index_zero t0_0 a rfl i))
theorem before_1 (c : Dev nD) (d) : (dats m ρ 0 c).before (1 : Fin 8) t0_0 d = (inp m).wi 0 c := by
  unfold Dat.before; rw [if_pos (fetch0_1 t0_0)]
  exact funext fun i => congrArg (m ((c : Thread nD τ).loc main_arg1)) (funext fun a => Fin.ext (win0_1.rect_emb_val_of_index_zero t0_0 a rfl i))
theorem before_2 (c : Dev nD) (d) : (dats m ρ 0 c).before (2 : Fin 8) t0_0 d = (inp m).wo 0 c := by
  unfold Dat.before; rw [if_pos (fetch0_2 t0_0)]
  exact funext fun i => congrArg (m ((c : Thread nD τ).loc main_arg4)) (funext fun a => Fin.ext (win0_2.rect_emb_val_of_index_zero t0_0 a rfl i))
theorem before_3 (c : Dev nD) (d) : (dats m ρ 0 c).before (3 : Fin 8) t0_0 d = (inp m).wi 1 c := by
  unfold Dat.before; rw [if_pos (fetch0_3 t0_0)]
  exact funext fun i => congrArg (m ((c : Thread nD τ).loc main_arg2)) (funext fun a => Fin.ext (win0_3.rect_emb_val_of_index_zero t0_0 a rfl i))
theorem before_4 (c : Dev nD) (d) : (dats m ρ 0 c).before (4 : Fin 8) t0_0 d = (inp m).wo 1 c := by
  unfold Dat.before; rw [if_pos (fetch0_4 t0_0)]
  exact funext fun i => congrArg (m ((c : Thread nD τ).loc main_arg5)) (funext fun a => Fin.ext (win0_4.rect_emb_val_of_index_zero t0_0 a rfl i))
theorem before_5 (c : Dev nD) (d) : (dats m ρ 0 c).before (5 : Fin 8) t0_0 d = (inp m).wi 2 c := by
  unfold Dat.before; rw [if_pos (fetch0_5 t0_0)]
  exact funext fun i => congrArg (m ((c : Thread nD τ).loc main_arg3)) (funext fun a => Fin.ext (win0_5.rect_emb_val_of_index_zero t0_0 a rfl i))
theorem before_6 (c : Dev nD) (d) : (dats m ρ 0 c).before (6 : Fin 8) t0_0 d = (inp m).wo 2 c := by
  unfold Dat.before; rw [if_pos (fetch0_6 t0_0)]
  exact funext fun i => congrArg (m ((c : Thread nD τ).loc main_arg6)) (funext fun a => Fin.ext (win0_6.rect_emb_val_of_index_zero t0_0 a rfl i))

/-- What a device has on entry to the kernel is what the barrier takes. -/
theorem pre_bar (c : Dev nD) : bodyPre m ρ c ⊢ (∃ K f0 fx, Bar (inp m) f0 fx K c (side₀ (inp m) c (outAny c)) 1 : sProp 𝕄) := by
  unfold bodyPre Φ₀ start G' scratch Dat.owesAt Pipeline.owesWithin
  rw [show (dats m ρ 0 c).owed t0_0.castSucc = O₀ c from rfl]
  simp only [before_0, before_1, before_2, before_3, before_4, before_5, before_6]
  iintro ⟨⟨⟨⟨%K, HG⟩, Hcr, Hl⟩, ⟨%f0, Hp⟩, ⟨%f1, Hr⟩, ⟨%fx, Hx⟩⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iexists K; iexists f0; iexists fx
  have hY : iprop((argPts c cc0_stg0_0 ((inp m).x c) ∗ weights (inp m) c ∗ outAny c) ∗ bigSep Finset.univ fun k : Fin 4 => atPos ER (cell k c c) 0 ∅ 0)
      ⊢ side₀ (inp m) c (outAny c) := by
    unfold side₀
    iintro ⟨⟨H1, H2, H3⟩, H4⟩; iframe H1 H2 H3 H4
  iapply (bar_intro (inp m) f0 fx K c f1 _ _ hY)
  isplitl [HG]; · iexact HG
  isplitl [Hcr Hl]; · isplitl [Hcr] <;> iassumption
  isplitl [Hp Hr Hx]; · iframe Hp Hr Hx
  isplitl [HO]; · iexists W; iexact HO
  isplitl [H0]; · iexact H0
  isplitl [H1 H2 H3 H4 H5 H6]
  · unfold weights; iframe H1 H2 H3 H4 H5 H6
  unfold outAny; iexists _; iexact H7

/-- The whole kernel, from what a device has on entry to what it leaves. -/
theorem body_run (c : Dev nD) : bodyPre m ρ c ⊢ wpOf c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  have hfin (K : Dev nD × CI → ℕ) (f0 fx : Big F) : St (inp m) f0 fx c 3 K (side (inp m) c (outDone (inp m) c)) (fun _ => 9) ⊢ |={Set.univ}=> bodyPost m ρ c := by
    refine (the_end (inp m) f0 fx K c).trans (BI.fupd_mono ?_)
    refine show iprop(Φ₁ c ∗ (∃ W, owes (c : Thread nD τ) 0 W) ∗ argPts c cc0_stg0_0 ((inp m).x c) ∗ weights (inp m) c ∗ outDone (inp m) c) ⊢ bodyPost m ρ c from ?_
    unfold bodyPost weights outDone Dat.owesAt Pipeline.owesWithin
    rw [show (dats m ρ 0 c).owed t0_0.succ = 0 from rfl]
    iintro ⟨HP, ⟨%W, HO⟩, H0, ⟨H1, H2, H3, H4, H5, H6⟩, H7⟩
    isplitl [HP]; · iexact HP
    isplitl [HO]
    · iexists W; isplitr
      · ipureintro; exact fun _ _ => Or.inl trivial
      · iexact HO
    iframe H0 H1 H2 H3 H4 H5 H6 H7
  iintro H
  ihave H := (pre_bar m ρ c) $$ H
  icases H with ⟨%K, %f0, %fx, H⟩
  unfold wpOf
  iapply (wp_fupd (Q := fun _ => bodyPost m ρ c))
  iapply (kernel_run (inp m) f0 fx K c (Q := fun _ => iprop(|={Set.univ}=> bodyPost m ρ c)) (hfin K f0 fx))
  iexact H

set_option maxRecDepth 16384 in
theorem body_obligation (c : Dev nD) : BodyObligation (dats (F := F) m ρ 0 c) (defs₀ (F := F)) 𝒱₀ 0 Set.univ := fun t => by
  rw [fin_N0 t]
  rw [bigSep_W0, bigSep_W0]
  simp only [owns_stg]
  show bodyPre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c)
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' (inp m) c)
      ⊢ |={Set.univ}=> iprop(start (inp m) c ∗ emp) := by
  iintro ⟨-, Hlev, Hcr, -, HG⟩
  ihave Hc := (promises (F := F) c) $$ Hcr
  imodintro
  unfold start
  isplitl
  · isplitl [HG]; · iexact HG
    isplitl [Hc]; · iexact Hc
    iexact Hlev
  · iempintro

theorem scratch_eq (c : Dev nD) : (scratch c : sProp 𝕄) = Pipeline.scopedRest cfg0.spec c := by
  refine Eq.trans ?_ (scopedRest0_eq c).symm
  unfold scratch ptPts rsPts xvPts
  rw [slots_univ]; rfl

theorem phi0_intro (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, unscopedSems_eq]
  unfold Φ₁
  iintro ⟨Hr, Hz, HzB⟩
  isplitl [HzB]; · iexact HzB
  isplitl [Hz]; · rw [ownSems_eq]; iexact Hz
  iexact Hr

theorem mayWait_staging (c : Dev nD) (q : DmaSem sig) (hq : lv ((c : Thread nD τ), .dma q) 0 = 0) (O : CellTallies nD τ sig ℕ) (hO : O = O₀ c ∨ O = 0) :
    (levAts L lv : sProp 𝕄) ⊢ MayWait (c : Thread nD τ) (.dma q) 0 O :=
  mayWait c (.dma q) (i := 0) (b := 1) (by decide) (by rw [hq]; decide) (by
    rcases hO with rfl | rfl
    · exact above_O₀ c
    · exact Above.zero 1)

theorem waits (c : Dev nD) : (levAts L lv : sProp 𝕄) ⊢ Pipeline.cellsWaits cfgs (dats m ρ) 0 0 c :=
  Pipeline.cellsWaits_intro cfgs (dats m ρ) 0 0 c fun w s t =>
    mayWait_staging c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were. -/
theorem final_in (c : Dev nD) (w : Fin cfg0.W) (hw : (cfg0.win w).isOut = false) : finalA m ρ c w = m ((cfg0.win w).arr.view.loc (c : Thread nD τ)) :=
  (dats m ρ 0 c).arrAt_in w hw _

/-- The output is the result of the three layers. -/
theorem final_out (c : Dev nD) : finalA m ρ c (7 : Fin 8) = result (inp m) := by
  have h : (win0_7.blk (0 : Fin 1)).view.read (Elt F) (finalA m ρ c (7 : Fin 8)) = result (inp m) := by
    unfold finalA
    rw [show cfg0.N = ((0 : Fin 1) : Fin cfg0.N).val + 1 from rfl, (dats m ρ 0 c).arrAt_succ (7 : Fin 8) (0 : Fin 1)]
    rw [show (cfg0.win (7 : Fin 8)).flush (0 : Fin 1) = true from by decide, if_pos rfl]
    exact View.read_write_univ _ _
  exact (funext fun i => (congrArg (finalA m ρ c (7 : Fin 8)) (funext fun a => Fin.ext (win0_7.rect_emb_val_of_index_zero t0_0 a rfl i))).symm).trans h

/-- The kernel runs to its end; every device's arguments are unchanged, its output is the result and every semaphore is at zero. -/
theorem run_main : θ_run defs (onTc (τ := τ) (main (F := F))) (s₀ m ρ) (fun r => (∀ c : Dev nD,
      r.2.mem ((c.tc : Thread nD τ).loc main_v1) = result (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run defs _ _).mono (fun r h => ⟨fun c => ?_, h.2⟩) (run_arrays m ρ)
  have hc := h.1 c
  exact ⟨(hc (7 : Fin 8)).trans (final_out m ρ c), (hc (0 : Fin 8)).trans (final_in m ρ c 0 rfl), (hc (1 : Fin 8)).trans (final_in m ρ c 1 rfl),
    (hc (3 : Fin 8)).trans (final_in m ρ c 3 rfl), (hc (5 : Fin 8)).trans (final_in m ρ c 5 rfl), (hc (2 : Fin 8)).trans (final_in m ρ c 2 rfl),
    (hc (4 : Fin 8)).trans (final_in m ρ c 4 rfl), (hc (6 : Fin 8)).trans (final_in m ρ c 6 rfl)⟩

end Cert.MlpProof
-- ==== Proof.Payloads.lean ====
/-
# The arithmetic, element by element

What each of the kernel's computations, and one layer of the reference, is at one position, in exact arithmetic.
-/
module

public import proofs.«01_k».proof.Proof.Gen.KernelIdeal
public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.MlpProof

open Cert.KernelIdeal Cert.KernelIdeal.Gen
open Idealize.ShloMosaic

/-- A group of the first layer: four slots of tokens through one device's slices of the weights. -/
theorem pay3_apply (x : Vec Ideal S128x256 .f32) (wi : Vec Ideal S256x512 .f32) (wo : Vec Ideal S512x256 .f32) (s : Fin 4) (r : Fin 32) (n : Fin 256) :
    k0_pay3 x wi wo (ix3 s r n) = ∑ k : Fin 512, max (∑ j : Fin 256, x (ix2 ⟨s.val * 32 + r.val, by omega⟩ j) * wi (ix2 j k)) 0 * wo (ix2 k n) := by
  pointwise [k0_pay3]

/-- A group of a later layer. -/
theorem pay8_apply (x : Vec Ideal S4x32x256 .bf16) (wi : Vec Ideal S256x512 .f32) (wo : Vec Ideal S512x256 .f32) (s : Fin 4) (r : Fin 32) (n : Fin 256) :
    k0_pay8 x wi wo (ix3 s r n) = ∑ k : Fin 512, max (∑ j : Fin 256, x (ix3 s r j) * wi (ix2 j k)) 0 * wo (ix2 k n) := by
  pointwise [k0_pay8]

/-- The sum over the sixteen devices. -/
theorem pay7_apply (v : Vec Ideal S16x32x256 .bf16) (r : Fin 32) (n : Fin 256) : k0_pay7 v (ix3 0 r n) = ∑ c : Fin 16, v (ix3 c r n) := by
  pointwise [k0_pay7]

/-- The output: the sixteen slots of 32 tokens read as 512 tokens. -/
theorem pay25_apply (v : Vec Ideal S16x32x256 .bf16) (t : Fin 512) (n : Fin 256) :
    k0_pay25 v (ix2 t n) = v (ix3 ⟨t.val / 32, by omega⟩ ⟨t.val % 32, by omega⟩ n) := by
  pointwise [k0_pay25]

/-- One layer of the reference. -/
def refLayer (x : Vec Ideal ReferenceIdeal.S512x256 .f32) (wi : Vec Ideal ReferenceIdeal.S256x8192 .f32) (wo : Vec Ideal ReferenceIdeal.S8192x256 .f32) :
    Vec Ideal ReferenceIdeal.S512x256 .f32 :=
  Host.dotGeneral (F := Ideal) (φ₁ := .f32) (φ₂ := .f32) ReferenceIdeal.dot_S512x8192_S8192x256_S512x256_1_0_0_1_n_n none
    (maximumf (F := Ideal) (φ := .f32) (Host.dotGeneral (F := Ideal) (φ₁ := .f32) (φ₂ := .f32) ReferenceIdeal.dot_S512x256_S256x8192_S512x8192_1_0_0_1_n_n none x wi)
      (broadcastInDim ReferenceIdeal.S512x8192 ![] ReferenceIdeal.Gen.bcast_S_S512x8192 (constant (F := Ideal) ReferenceIdeal.S_ .f32 0x00000000#32))) wo

theorem refLayer_apply (x : Vec Ideal ReferenceIdeal.S512x256 .f32) (wi : Vec Ideal ReferenceIdeal.S256x8192 .f32) (wo : Vec Ideal ReferenceIdeal.S8192x256 .f32)
    (t : Fin 512) (n : Fin 256) :
    refLayer x wi wo (ix2 t n) = ∑ k : Fin 8192, max (∑ j : Fin 256, x (ix2 t j) * wi (ix2 j k)) 0 * wo (ix2 k n) := by
  pointwise [refLayer]

end Cert.MlpProof
-- ==== Proof.Math.lean ====
/-
# The value

What the devices write out is what the reference computes: each layer is one sum over all 8192 inner features, cut into the sixteen parts of 512 that the devices hold.
-/
module

public import proofs.«01_k».proof.Proof.Values
public import proofs.«01_k».proof.Proof.Payloads
public import Idealize.ShloMosaic.Lib.Layout
public import Idealize.ShloMosaic.Lib.Pipeline.ValueKit.Acc

@[expose] public section

set_option maxRecDepth 16384

noncomputable section

namespace Cert.MlpProof

open Cert.KernelIdeal Cert.KernelIdeal.Gen
open Idealize.ShloMosaic

variable (I : Inp Ideal)

/-- The sixteen slots of 32 tokens read as 512 tokens. -/
def flat (X : Big Ideal) : S512x256.Idx → Elt Ideal .f32 := k0_pay25 X

/-- What device `c` reads its tokens from in layer `l`. -/
def reads (c : Dev nD) : ℕ → Big Ideal → S512x256.Idx → Elt Ideal .f32
  | 0, _ => I.x c
  | _ + 1, X => flat X

theorem flat_slot (X : Big Ideal) (s : Fin 16) (r : Fin 32) (n : Fin 256) (t : Fin 512) (ht : t.val = 32 * s.val + r.val) : flat X (ix2 t n) = X (ix3 s r n) := by
  unfold flat
  rw [pay25_apply]
  congr 2
  · exact Fin.ext (by show t.val / 32 = s.val; omega)
  · exact Fin.ext (by show t.val % 32 = r.val; omega)

/-- One device's share of a layer: its 512 of the 8192 inner features. -/
theorem part_apply (c : Dev nD) (l : ℕ) (X : Big Ideal) (s : Fin 16) (r : Fin 32) (n : Fin 256) (t : Fin 512) (ht : t.val = 32 * s.val + r.val) :
    part I c l X (ix3 s r n)
      = ∑ k : Fin 512, max (∑ j : Fin 256, reads I c l X (ix2 t j) * I.wi l c (ix2 j k)) 0 * I.wo l c (ix2 k n) := by
  cases l with
  | zero =>
    refine (pay3_apply _ _ _ ⟨s.val % 4, Nat.mod_lt _ (by decide)⟩ r n).trans ?_
    refine Finset.sum_congr rfl fun k _ => congrArg (fun e => max e 0 * I.wo 0 c (ix2 k n)) (Finset.sum_congr rfl fun j _ => congrArg (· * I.wi 0 c (ix2 j k)) ?_)
    exact congrArg (fun u => I.x c (ix2 u j)) (Fin.ext (by show 128 * (s.val / 4) + (s.val % 4 * 32 + r.val) = t.val; omega))
  | succ l =>
    refine (pay8_apply _ _ _ ⟨s.val % 4, Nat.mod_lt _ (by decide)⟩ r n).trans ?_
    refine Finset.sum_congr rfl fun k _ => congrArg (fun e => max e 0 * I.wo (l + 1) c (ix2 k n)) (Finset.sum_congr rfl fun j _ => congrArg (· * I.wi (l + 1) c (ix2 j k)) ?_)
    refine Eq.trans ?_ (flat_slot X s r j t ht).symm
    exact congrArg (fun u => X (ix3 u r j)) (Fin.ext (by show 4 * (s.val / 4) + s.val % 4 = s.val; omega))

/-- A layer: the sum of the sixteen devices' shares. -/
theorem next_apply (l : ℕ) (X : Big Ideal) (t : Fin 512) (n : Fin 256) :
    flat (next I l X) (ix2 t n)
      = ∑ c : Fin 16, ∑ k : Fin 512, max (∑ j : Fin 256, reads I c l X (ix2 t j) * I.wi l c (ix2 j k)) 0 * I.wo l c (ix2 k n) := by
  refine (flat_slot (next I l X) ⟨t.val / 32, by omega⟩ ⟨t.val % 32, by omega⟩ n t (by show t.val = 32 * (t.val / 32) + t.val % 32; omega)).trans ?_
  refine (pay7_apply _ ⟨t.val % 32, by omega⟩ n).trans ?_
  exact Finset.sum_congr rfl fun c _ => part_apply I c l X ⟨t.val / 32, by omega⟩ ⟨t.val % 32, by omega⟩ n t (by show t.val = 32 * (t.val / 32) + t.val % 32; omega)

variable {I} {x : Vec Ideal ReferenceIdeal.S512x256 .f32} {wi : ℕ → Vec Ideal ReferenceIdeal.S256x8192 .f32} {wo : ℕ → Vec Ideal ReferenceIdeal.S8192x256 .f32}

/-- A layer is the reference's layer, the devices holding their parts of its weights. -/
theorem next_eq (l : ℕ) (X : Big Ideal) (hx : ∀ c, reads I c l X = x)
    (hwi : ∀ (c : Fin 16) (j : Fin 256) (k : Fin 512), I.wi l c (ix2 j k) = wi l (ix2 j ⟨c.val * 512 + k.val, by omega⟩))
    (hwo : ∀ (c : Fin 16) (k : Fin 512) (n : Fin 256), I.wo l c (ix2 k n) = wo l (ix2 ⟨c.val * 512 + k.val, by omega⟩ n)) :
    flat (next I l X) = refLayer x (wi l) (wo l) := by
  funext i
  obtain ⟨t, n, rfl⟩ : ∃ (t : Fin 512) (n : Fin 256), i = ix2 t n := ⟨i 0, i 1, eq_ix2 i⟩
  refine (next_apply I l X t n).trans ((Eq.trans ?_ (refLayer_apply x (wi l) (wo l) t n).symm))
  refine Fin.sum_mul_add_congr fun c k hl => ?_
  simp only [hx, hwi, hwo]

/-- What the devices write out is the reference's three layers. -/
theorem result_eq (hx : ∀ c, I.x c = x)
    (hwi : ∀ (l : ℕ) (c : Fin 16) (j : Fin 256) (k : Fin 512), I.wi l c (ix2 j k) = wi l (ix2 j ⟨c.val * 512 + k.val, by omega⟩))
    (hwo : ∀ (l : ℕ) (c : Fin 16) (k : Fin 512) (n : Fin 256), I.wo l c (ix2 k n) = wo l (ix2 ⟨c.val * 512 + k.val, by omega⟩ n)) :
    result I = refLayer (refLayer (refLayer x (wi 0) (wo 0)) (wi 1) (wo 1)) (wi 2) (wo 2) := by
  have h0 : flat (XB I 1) = refLayer x (wi 0) (wo 0) := next_eq 0 (XB I 0) hx (hwi 0) (hwo 0)
  have h1 : flat (XB I 2) = refLayer (refLayer x (wi 0) (wo 0)) (wi 1) (wo 1) := next_eq 1 (XB I 1) (fun _ => h0) (hwi 1) (hwo 1)
  exact next_eq 2 (XB I 2) (fun _ => h1) (hwi 2) (hwo 2)

/-- A column block of a matrix at one position. -/
theorem block_cols (c : Fin 16) (v : (⟨2, ![256, 8192]⟩ : Shape).Idx → Elt Ideal .f32) (j : Fin 256) (k : Fin 512) :
    Layout.block ⟨2, ![256, 512]⟩ ⟨2, ![256, 8192]⟩ 1 16 c v (by decide) (ix2 j k) = v (ix2 j ⟨c.val * 512 + k.val, by omega⟩) :=
  congrArg v (funext fun a => Fin.ext (match a with | ⟨0, _⟩ => rfl | ⟨1, _⟩ => rfl))

/-- A row block of a matrix at one position. -/
theorem block_rows (c : Fin 16) (v : (⟨2, ![8192, 256]⟩ : Shape).Idx → Elt Ideal .f32) (k : Fin 512) (n : Fin 256) :
    Layout.block ⟨2, ![512, 256]⟩ ⟨2, ![8192, 256]⟩ 0 16 c v (by decide) (ix2 k n) = v (ix2 ⟨c.val * 512 + k.val, by omega⟩ n) :=
  congrArg v (funext fun a => Fin.ext (match a with | ⟨0, _⟩ => rfl | ⟨1, _⟩ => rfl))

end Cert.MlpProof
-- ==== Proof.Claims.lean ====
/-
# The claims

Both readings of the kernel and the reference run to their ends and leave their arguments as they were, and the kernel's output is the reference's.
-/
module

public import proofs.«01_k».proof.Proof.Run
public import proofs.«01_k».proof.Proof.Math
public import proofs.«01_k».proof.Defs
public import proofs.«01_k».proof.Proof.Gen.Kernel

@[expose] public section

set_option maxRecDepth 16384

noncomputable section

namespace Cert.MlpProof

open Idealize.ShloMosaic Idealize.SL.Sem

/-- Both readings of the kernel have one text: the kernel's function, -/
theorem bodies_eq : Cert.Kernel.defs₀ (F := Bits) = Cert.KernelIdeal.defs₀ (F := Bits) :=
  congrArg (Defs.onTc (τ := Cert.KernelIdeal.τ)) (funext fun l => funext fun a => match l, a with
    | 0, (t, s) => rfl
    | ⟨_ + 1, h⟩, _ => absurd h (Nat.not_lt.2 (Nat.le_add_left _ _)))

/-- and with it the launch. -/
theorem programs_eq : Cert.Kernel.defs (F := Bits) = Cert.KernelIdeal.defs (F := Bits) := congrArg (Pipeline.defs Cert.KernelIdeal.pcfgs) bodies_eq

/-- The kernel as written, on machine words. -/
theorem frame_kernel : Cert.quiescent_Kernel := fun m ρ _ => by
  have h := (θ_run Cert.KernelIdeal.defs _ _).mono (fun r (h : _ ∧ _) => (⟨fun c => (h.1 c).2, h.2⟩ :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)) (run_main (F := Bits) m ρ)
  exact (congrArg (fun D => θ_run D (onTc (τ := Cert.KernelIdeal.τ) (Cert.KernelIdeal.main (F := Bits))) (s₀ m ρ) _) programs_eq).mpr h

/-- The kernel in exact arithmetic. -/
theorem frame_ideal : Cert.quiescent_KernelIdeal := fun m ρ _ =>
  (θ_run Cert.KernelIdeal.defs _ _).mono (fun _ h => ⟨fun c => (h.1 c).2, h.2⟩) (run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's inner weights by layer. -/
def refIn (m' : (ℓ : Loc Cert.ReferenceIdeal.nD Cert.ReferenceIdeal.τ Cert.ReferenceIdeal.sig) → Buf (Elt Ideal) ℓ) (l : ℕ) : Vec Ideal Cert.ReferenceIdeal.S256x8192 .f32 :=
  match l with
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg2)
  | _ => m' (((0 : Dev Cert.ReferenceIdeal.nD).tc : Thread Cert.ReferenceIdeal.nD Cert.ReferenceIdeal.τ).loc Cert.ReferenceIdeal.main_arg3)

/-- The reference's outer weights by layer. -/
def refOut (m' : (ℓ : Loc Cert.ReferenceIdeal.nD Cert.ReferenceIdeal.τ Cert.ReferenceIdeal.sig) → Buf (Elt Ideal) ℓ) (l : ℕ) : Vec Ideal Cert.ReferenceIdeal.S8192x256 .f32 :=
  match l with
  | 0 => m' (((0 : Dev Cert.ReferenceIdeal.nD).tc : Thread Cert.ReferenceIdeal.nD Cert.ReferenceIdeal.τ).loc Cert.ReferenceIdeal.main_arg4)
  | 1 => m' (((0 : Dev Cert.ReferenceIdeal.nD).tc : Thread Cert.ReferenceIdeal.nD Cert.ReferenceIdeal.τ).loc Cert.ReferenceIdeal.main_arg5)
  | _ => m' (((0 : Dev Cert.ReferenceIdeal.nD).tc : Thread Cert.ReferenceIdeal.nD Cert.ReferenceIdeal.τ).loc Cert.ReferenceIdeal.main_arg6)

/-- The kernel on sixteen devices computes what the reference computes on one. -/
theorem algebraic : Cert.algebraic_KernelIdeal_ReferenceIdeal := by
  intro m ρ m' ρ' _ hm
  have hv : result (inp m)
      = refLayer (refLayer (refLayer (m' (((0 : Dev Cert.ReferenceIdeal.nD).tc : Thread Cert.ReferenceIdeal.nD Cert.ReferenceIdeal.τ).loc Cert.ReferenceIdeal.main_arg0))
          (refIn m' 0) (refOut m' 0)) (refIn m' 1) (refOut m' 1)) (refIn m' 2) (refOut m' 2) := by
    refine result_eq (wi := refIn m') (wo := refOut m') (fun c => (hm c).1) (fun l c j k => ?_) (fun l c k n => ?_)
    · rcases l with _ | _ | l
      · exact (congrFun (hm c).2.1 (ix2 j k)).trans (block_cols c _ j k)
      · exact (congrFun (hm c).2.2.1 (ix2 j k)).trans (block_cols c _ j k)
      · exact (congrFun (hm c).2.2.2.1 (ix2 j k)).trans (block_cols c _ j k)
    · rcases l with _ | _ | l
      · exact (congrFun (hm c).2.2.2.2.1 (ix2 k n)).trans (block_rows c _ k n)
      · exact (congrFun (hm c).2.2.2.2.2.1 (ix2 k n)).trans (block_rows c _ k n)
      · exact (congrFun (hm c).2.2.2.2.2.2 (ix2 k n)).trans (block_rows c _ k n)
  refine ⟨result (inp m), (θ_run Cert.KernelIdeal.defs _ _).mono (fun _ h => h.1) (run_main (F := Ideal) m ρ), ?_⟩
  exact (θ_run Cert.ReferenceIdeal.defs _ _).mono (fun _ h => ⟨(h 0).1.trans hv.symm, (h 0).2⟩) (Cert.ReferenceIdeal.Value.run (F := Ideal) m' ρ')

end Cert.MlpProof
-- ==== Proof.lean ====
/-
# The certificate

The three programs' side conditions, the three frames, the idealization (no rewrites) and the value claim, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpProof.frame_kernel, Cert.MlpProof.frame_ideal, Cert.MlpProof.frame_reference, trivial, Cert.MlpProof.algebraic⟩

end Cert.Proof

end
